-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "scale" .f32 0x3E38AA3B#32 (((8 * (Real.log 2))⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .bf16) (main_arg1 : FVec F S512x1024 .bf16) (main_arg2 : FVec F S2x256x4x64 .bf16) (main_arg3 : FVec F S2x256x4x64 .bf16) (main_arg4 : FVec F S1024x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x1024 .f32 := (extf .f32 · bitsLt_bf16_f32) main_arg1
  let main_v6 : FVec F S512x1024 .f32 := Host.absf main_v5
  let main_cst_0 : FVec F S_ .f32 := constant S_ .f32 0x7F800000#32
  let main_v7 : FVec F S512x1024 .f32 := broadcastInDim S512x1024 ![] bcast_S_S512x1024 main_cst_0
  let main_v8 : IVec S512x1024 1 := cmpf .olt main_v6 main_v7
  let main_c_1 : IVec S_ 1 := constantI S_ 1 1#1
  let main_v9 : IVec S_ 1 := (fun x v => Host.reduce IntOp.andi x v reducesTo_S512x1024_S_d0_1 h_S_) main_v8 main_c_1
  let main_v10 : IVec S_ 1 := andi main_v4 main_v9
  let main_v11 : FVec F S2x256x4x64 .f32 := (extf .f32 · bitsLt_bf16_f32) main_arg2
  let main_v12 : FVec F S2x256x4x64 .f32 := Host.absf main_v11
  let main_cst_2 : FVec F S_ .f32 := constant S_ .f32 0x7F800000#32
  let main_v13 : FVec F S2x256x4x64 .f32 := broadcastInDim S2x256x4x64 ![] bcast_S_S2x256x4x64 main_cst_2
  let main_v14 : IVec S2x256x4x64 1 := cmpf .olt main_v12 main_v13
  let main_c_3 : IVec S_ 1 := constantI S_ 1 1#1
  let main_v15 : IVec S_ 1 := (fun x v => Host.reduce IntOp.andi x v reducesTo_S2x256x4x64_S_d0_1_2_3 h_S_) main_v14 main_c_3
  let main_v16 : IVec S_ 1 := andi main_v10 main_v15
  main_v16
-- ==== Pre_finite_ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x256x16x64 : S_.BroadcastsInDim S2x256x16x64 (![] : Fin 0 → Fin S2x256x16x64.rank)
  reducesTo_S2x256x16x64_S_d0_1_2_3 : S2x256x16x64.ReducesTo [0, 1, 2, 3] S_

variable [Facts]

def fn {F : FTy → Type} [FloatOps F] (main_arg0 : FVec F S2x256x512 .bf16) (main_arg1 : FVec F S512x1024 .bf16) (main_arg2 : FVec F S2x256x16x64 .bf16) (main_arg3 : FVec F S2x256x16x64 .bf16) (main_arg4 : FVec F S1024x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x1024 .f32 := (extf .f32 · bitsLt_bf16_f32) main_arg1
  let main_v6 : FVec F S512x1024 .f32 := Host.absf main_v5
  let main_cst_0 : FVec F S_ .f32 := constant S_ .f32 0x7F800000#32
  let main_v7 : FVec F S512x1024 .f32 := broadcastInDim S512x1024 ![] bcast_S_S512x1024 main_cst_0
  let main_v8 : IVec S512x1024 1 := cmpf .olt main_v6 main_v7
  let main_c_1 : IVec S_ 1 := constantI S_ 1 1#1
  let main_v9 : IVec S_ 1 := (fun x v => Host.reduce IntOp.andi x v reducesTo_S512x1024_S_d0_1 h_S_) main_v8 main_c_1
  let main_v10 : IVec S_ 1 := andi main_v4 main_v9
  let main_v11 : FVec F S2x256x16x64 .f32 := (extf .f32 · bitsLt_bf16_f32) main_arg2
  let main_v12 : FVec F S2x256x16x64 .f32 := Host.absf main_v11
  let main_cst_2 : FVec F S_ .f32 := constant S_ .f32 0x7F800000#32
  let main_v13 : FVec F S2x256x16x64 .f32 := broadcastInDim S2x256x16x64 ![] bcast_S_S2x256x16x64 main_cst_2
  let main_v14 : IVec S2x256x16x64 1 := cmpf .olt main_v12 main_v13
  let main_c_3 : IVec S_ 1 := constantI S_ 1 1#1
  let main_v15 : IVec S_ 1 := (fun x v => Host.reduce IntOp.andi x v reducesTo_S2x256x16x64_S_d0_1_2_3 h_S_) main_v14 main_c_3
  let main_v16 : IVec S_ 1 := andi main_v10 main_v15
  main_v16
-- ==== Kernel.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S_ : Shape := ⟨0, ![]⟩
abbrev S512x256 : Shape := ⟨2, ![512, 256]⟩
abbrev S2x4x64x256 : Shape := ⟨4, ![2, 4, 64, 256]⟩
abbrev S8x64x256 : Shape := ⟨3, ![8, 64, 256]⟩
abbrev S2x4x256x64 : Shape := ⟨4, ![2, 4, 256, 64]⟩
abbrev S8x256x64 : Shape := ⟨3, ![8, 256, 64]⟩
abbrev S8x256x1 : Shape := ⟨3, ![8, 256, 1]⟩
abbrev S8x256x65 : Shape := ⟨3, ![8, 256, 65]⟩
abbrev S4x2x256x256 : Shape := ⟨4, ![4, 2, 256, 256]⟩
abbrev S4x4 : Shape := ⟨2, ![4, 4]⟩
abbrev S256x256 : Shape := ⟨2, ![256, 256]⟩
abbrev S512x512 : Shape := ⟨2, ![512, 512]⟩
abbrev S256x64 : Shape := ⟨2, ![256, 64]⟩
abbrev S1x64x256 : Shape := ⟨3, ![1, 64, 256]⟩
abbrev S64x256 : Shape := ⟨2, ![64, 256]⟩
abbrev S1x256x65 : Shape := ⟨3, ![1, 256, 65]⟩
abbrev S256x65 : Shape := ⟨2, ![256, 65]⟩
abbrev S256x1 : Shape := ⟨2, ![256, 1]⟩
abbrev S1x1x256x64 : Shape := ⟨4, ![1, 1, 256, 64]⟩
abbrev S1x1 : Shape := ⟨2, ![1, 1]⟩
abbrev S1x1x256x128 : Shape := ⟨4, ![1, 1, 256, 128]⟩
abbrev S256x128 : Shape := ⟨2, ![256, 128]⟩
abbrev S256x512 : Shape := ⟨2, ![256, 512]⟩
abbrev S1x1x256x256 : Shape := ⟨4, ![1, 1, 256, 256]⟩
abbrev S1x256x512 : Shape := ⟨3, ![1, 256, 512]⟩

abbrev nBuf : Space → Nat
  | .hbm => 28
  | .vmem => 7
  | .smem => 0
  | _ => 0

abbrev bufTy : (tb : Table) → Fin (tcTables nBuf tb) → BufTy
  | .hbm, ⟨0, _⟩ => ⟨S2x256x512, .bf16⟩
  | .hbm, ⟨1, _⟩ => ⟨S512x1024, .bf16⟩
  | .hbm, ⟨2, _⟩ => ⟨S2x256x4x64, .bf16⟩
  | .hbm, ⟨3, _⟩ => ⟨S2x256x4x64, .bf16⟩
  | .hbm, ⟨4, _⟩ => ⟨S1024x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S2x4x64x256, .bf16⟩
  | .hbm, ⟨21, _⟩ => ⟨S8x64x256, .bf16⟩
  | .hbm, ⟨22, _⟩ => ⟨S2x4x256x64, .bf16⟩
  | .hbm, ⟨23, _⟩ => ⟨S8x256x64, .bf16⟩
  | .hbm, ⟨24, _⟩ => ⟨S_, .bf16⟩
  | .hbm, ⟨25, _⟩ => ⟨S8x256x1, .bf16⟩
  | .hbm, ⟨26, _⟩ => ⟨S8x256x65, .bf16⟩
  | .hbm, ⟨27, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S8x64x256, .bf16⟩
  | .local _ .vmem, ⟨3, _⟩ => ⟨S8x256x65, .bf16⟩
  | .local _ .vmem, ⟨4, _⟩ => ⟨S1024x512, .bf16⟩
  | .local _ .vmem, ⟨5, _⟩ => ⟨S2x256x512, .f32⟩
  | .local _ .vmem, ⟨6, _⟩ => ⟨S4x2x256x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v108 : BitVec 32 := Scalar.addi v2 c1_i32_60
  let c4_i32_61 : BitVec 32 := 4#32
  let c0_i32_62 : BitVec 32 := 0#32
  let v109 : BitVec 1 := Scalar.cmpi .eq c4_i32_61 c0_i32_62
  let c1_i32_63 : BitVec 32 := 1#32
  let v110 : BitVec 32 := Scalar.select v109 c1_i32_63 c4_i32_61
  let v111 : BitVec 32 := Scalar.remsi v108 v110
  let c0_i32_65 : BitVec 32 := 0#32
  let v113 : BitVec 1 := Scalar.cmpi .slt v111 c0_i32_65
  let c0_i32_66 : BitVec 32 := 0#32
  let v114 : BitVec 1 := Scalar.cmpi .slt v110 c0_i32_66
  let v115 : BitVec 1 := Scalar.xori v113 v114
  let c0_i32_64 : BitVec 32 := 0#32
  let v112 : BitVec 1 := Scalar.cmpi .ne v111 c0_i32_64
  let v116 : BitVec 1 := Scalar.andi v115 v112
  let v117 : BitVec 32 := Scalar.addi v111 v110
  let v118 : BitVec 32 := Scalar.select v116 v117 v111
  let c1_i32_75 : BitVec 32 := 1#32
  let v119 : BitVec 32 := Scalar.muli v118 c1_i32_75
  let v120 : BitVec 32 := Scalar.addi c0_i32_76 v119
  v120.toNat
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_81 : BitVec 32 := 2#32
  let v129 : BitVec 32 := Scalar.addi v2 c2_i32_81
  let c4_i32_82 : BitVec 32 := 4#32
  let c0_i32_83 : BitVec 32 := 0#32
  let v130 : BitVec 1 := Scalar.cmpi .eq c4_i32_82 c0_i32_83
  let c1_i32_84 : BitVec 32 := 1#32
  let v131 : BitVec 32 := Scalar.select v130 c1_i32_84 c4_i32_82
  let v132 : BitVec 32 := Scalar.remsi v129 v131
  let c0_i32_86 : BitVec 32 := 0#32
  let v134 : BitVec 1 := Scalar.cmpi .slt v132 c0_i32_86
  let c0_i32_87 : BitVec 32 := 0#32
  let v135 : BitVec 1 := Scalar.cmpi .slt v131 c0_i32_87
  let v136 : BitVec 1 := Scalar.xori v134 v135
  let c0_i32_85 : BitVec 32 := 0#32
  let v133 : BitVec 1 := Scalar.cmpi .ne v132 c0_i32_85
  let v137 : BitVec 1 := Scalar.andi v136 v133
  let v138 : BitVec 32 := Scalar.addi v132 v131
  let v139 : BitVec 32 := Scalar.select v137 v138 v132
  let c1_i32_96 : BitVec 32 := 1#32
  let v140 : BitVec 32 := Scalar.muli v139 c1_i32_96
  let v141 : BitVec 32 := Scalar.addi c0_i32_97 v140
  v141.toNat
def k0_dev6 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_102 : BitVec 32 := 3#32
  let v150 : BitVec 32 := Scalar.addi v2 c3_i32_102
  let c4_i32_103 : BitVec 32 := 4#32
  let c0_i32_104 : BitVec 32 := 0#32
  let v151 : BitVec 1 := Scalar.cmpi .eq c4_i32_103 c0_i32_104
  let c1_i32_105 : BitVec 32 := 1#32
  let v152 : BitVec 32 := Scalar.select v151 c1_i32_105 c4_i32_103
  let v153 : BitVec 32 := Scalar.remsi v150 v152
  let c0_i32_107 : BitVec 32 := 0#32
  let v155 : BitVec 1 := Scalar.cmpi .slt v153 c0_i32_107
  let c0_i32_108 : BitVec 32 := 0#32
  let v156 : BitVec 1 := Scalar.cmpi .slt v152 c0_i32_108
  let v157 : BitVec 1 := Scalar.xori v155 v156
  let c0_i32_106 : BitVec 32 := 0#32
  let v154 : BitVec 1 := Scalar.cmpi .ne v153 c0_i32_106
  let v158 : BitVec 1 := Scalar.andi v157 v154
  let v159 : BitVec 32 := Scalar.addi v153 v152
  let v160 : BitVec 32 := Scalar.select v158 v159 v153
  let c1_i32_117 : BitVec 32 := 1#32
  let v161 : BitVec 32 := Scalar.muli v160 c1_i32_117
  let v162 : BitVec 32 := Scalar.addi c0_i32_118 v161
  v162.toNat
def k0_dev7 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_145 : BitVec 32 := 1#32
  let v211 : BitVec 32 := Scalar.addi v2 c1_i32_145
  let c4_i32_146 : BitVec 32 := 4#32
  let c0_i32_147 : BitVec 32 := 0#32
  let v212 : BitVec 1 := Scalar.cmpi .eq c4_i32_146 c0_i32_147
  let c1_i32_148 : BitVec 32 := 1#32
  let v213 : BitVec 32 := Scalar.select v212 c1_i32_148 c4_i32_146
  let v214 : BitVec 32 := Scalar.remsi v211 v213
  let c0_i32_150 : BitVec 32 := 0#32
  let v216 : BitVec 1 := Scalar.cmpi .slt v214 c0_i32_150
  let c0_i32_151 : BitVec 32 := 0#32
  let v217 : BitVec 1 := Scalar.cmpi .slt v213 c0_i32_151
  let v218 : BitVec 1 := Scalar.xori v216 v217
  let c0_i32_149 : BitVec 32 := 0#32
  let v215 : BitVec 1 := Scalar.cmpi .ne v214 c0_i32_149
  let v219 : BitVec 1 := Scalar.andi v218 v215
  let v220 : BitVec 32 := Scalar.addi v214 v213
  let v221 : BitVec 32 := Scalar.select v219 v220 v214
  let c1_i32_160 : BitVec 32 := 1#32
  let v222 : BitVec 32 := Scalar.muli v221 c1_i32_160
  let v223 : BitVec 32 := Scalar.addi c0_i32_161 v222
  v223.toNat
def k0_dev8 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_166 : BitVec 32 := 2#32
  let v232 : BitVec 32 := Scalar.addi v2 c2_i32_166
  let c4_i32_167 : BitVec 32 := 4#32
  let c0_i32_168 : BitVec 32 := 0#32
  let v233 : BitVec 1 := Scalar.cmpi .eq c4_i32_167 c0_i32_168
  let c1_i32_169 : BitVec 32 := 1#32
  let v234 : BitVec 32 := Scalar.select v233 c1_i32_169 c4_i32_167
  let v235 : BitVec 32 := Scalar.remsi v232 v234
  let c0_i32_171 : BitVec 32 := 0#32
  let v237 : BitVec 1 := Scalar.cmpi .slt v235 c0_i32_171
  let c0_i32_172 : BitVec 32 := 0#32
  let v238 : BitVec 1 := Scalar.cmpi .slt v234 c0_i32_172
  let v239 : BitVec 1 := Scalar.xori v237 v238
  let c0_i32_170 : BitVec 32 := 0#32
  let v236 : BitVec 1 := Scalar.cmpi .ne v235 c0_i32_170
  let v240 : BitVec 1 := Scalar.andi v239 v236
  let v241 : BitVec 32 := Scalar.addi v235 v234
  let v242 : BitVec 32 := Scalar.select v240 v241 v235
  let c1_i32_181 : BitVec 32 := 1#32
  let v243 : BitVec 32 := Scalar.muli v242 c1_i32_181
  let v244 : BitVec 32 := Scalar.addi c0_i32_182 v243
  v244.toNat
def k0_dev9 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_187 : BitVec 32 := 3#32
  let v253 : BitVec 32 := Scalar.addi v2 c3_i32_187
  let c4_i32_188 : BitVec 32 := 4#32
  let c0_i32_189 : BitVec 32 := 0#32
  let v254 : BitVec 1 := Scalar.cmpi .eq c4_i32_188 c0_i32_189
  let c1_i32_190 : BitVec 32 := 1#32
  let v255 : BitVec 32 := Scalar.select v254 c1_i32_190 c4_i32_188
  let v256 : BitVec 32 := Scalar.remsi v253 v255
  let c0_i32_192 : BitVec 32 := 0#32
  let v258 : BitVec 1 := Scalar.cmpi .slt v256 c0_i32_192
  let c0_i32_193 : BitVec 32 := 0#32
  let v259 : BitVec 1 := Scalar.cmpi .slt v255 c0_i32_193
  let v260 : BitVec 1 := Scalar.xori v258 v259
  let c0_i32_191 : BitVec 32 := 0#32
  let v257 : BitVec 1 := Scalar.cmpi .ne v256 c0_i32_191
  let v261 : BitVec 1 := Scalar.andi v260 v257
  let v262 : BitVec 32 := Scalar.addi v256 v255
  let v263 : BitVec 32 := Scalar.select v261 v262 v256
  let c1_i32_202 : BitVec 32 := 1#32
  let v264 : BitVec 32 := Scalar.muli v263 c1_i32_202
  let v265 : BitVec 32 := Scalar.addi c0_i32_203 v264
  v265.toNat
def k0_dev10 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_232 : BitVec 32 := 1#32
  let v314 : BitVec 32 := Scalar.addi v2 c1_i32_232
  let c4_i32_233 : BitVec 32 := 4#32
  let c0_i32_234 : BitVec 32 := 0#32
  let v315 : BitVec 1 := Scalar.cmpi .eq c4_i32_233 c0_i32_234
  let c1_i32_235 : BitVec 32 := 1#32
  let v316 : BitVec 32 := Scalar.select v315 c1_i32_235 c4_i32_233
  let v317 : BitVec 32 := Scalar.remsi v314 v316
  let c0_i32_237 : BitVec 32 := 0#32
  let v319 : BitVec 1 := Scalar.cmpi .slt v317 c0_i32_237
  let c0_i32_238 : BitVec 32 := 0#32
  let v320 : BitVec 1 := Scalar.cmpi .slt v316 c0_i32_238
  let v321 : BitVec 1 := Scalar.xori v319 v320
  let c0_i32_236 : BitVec 32 := 0#32
  let v318 : BitVec 1 := Scalar.cmpi .ne v317 c0_i32_236
  let v322 : BitVec 1 := Scalar.andi v321 v318
  let v323 : BitVec 32 := Scalar.addi v317 v316
  let v324 : BitVec 32 := Scalar.select v322 v323 v317
  let c1_i32_247 : BitVec 32 := 1#32
  let v325 : BitVec 32 := Scalar.muli v324 c1_i32_247
  let v326 : BitVec 32 := Scalar.addi c0_i32_248 v325
  v326.toNat
def k0_dev11 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_253 : BitVec 32 := 2#32
  let v335 : BitVec 32 := Scalar.addi v2 c2_i32_253
  let c4_i32_254 : BitVec 32 := 4#32
  let c0_i32_255 : BitVec 32 := 0#32
  let v336 : BitVec 1 := Scalar.cmpi .eq c4_i32_254 c0_i32_255
  let c1_i32_256 : BitVec 32 := 1#32
  let v337 : BitVec 32 := Scalar.select v336 c1_i32_256 c4_i32_254
  let v338 : BitVec 32 := Scalar.remsi v335 v337
  let c0_i32_258 : BitVec 32 := 0#32
  let v340 : BitVec 1 := Scalar.cmpi .slt v338 c0_i32_258
  let c0_i32_259 : BitVec 32 := 0#32
  let v341 : BitVec 1 := Scalar.cmpi .slt v337 c0_i32_259
  let v342 : BitVec 1 := Scalar.xori v340 v341
  let c0_i32_257 : BitVec 32 := 0#32
  let v339 : BitVec 1 := Scalar.cmpi .ne v338 c0_i32_257
  let v343 : BitVec 1 := Scalar.andi v342 v339
  let v344 : BitVec 32 := Scalar.addi v338 v337
  let v345 : BitVec 32 := Scalar.select v343 v344 v338
  let c1_i32_268 : BitVec 32 := 1#32
  let v346 : BitVec 32 := Scalar.muli v345 c1_i32_268
  let v347 : BitVec 32 := Scalar.addi c0_i32_269 v346
  v347.toNat
def k0_dev12 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_274 : BitVec 32 := 3#32
  let v356 : BitVec 32 := Scalar.addi v2 c3_i32_274
  let c4_i32_275 : BitVec 32 := 4#32
  let c0_i32_276 : BitVec 32 := 0#32
  let v357 : BitVec 1 := Scalar.cmpi .eq c4_i32_275 c0_i32_276
  let c1_i32_277 : BitVec 32 := 1#32
  let v358 : BitVec 32 := Scalar.select v357 c1_i32_277 c4_i32_275
  let v359 : BitVec 32 := Scalar.remsi v356 v358
  let c0_i32_279 : BitVec 32 := 0#32
  let v361 : BitVec 1 := Scalar.cmpi .slt v359 c0_i32_279
  let c0_i32_280 : BitVec 32 := 0#32
  let v362 : BitVec 1 := Scalar.cmpi .slt v358 c0_i32_280
  let v363 : BitVec 1 := Scalar.xori v361 v362
  let c0_i32_278 : BitVec 32 := 0#32
  let v360 : BitVec 1 := Scalar.cmpi .ne v359 c0_i32_278
  let v364 : BitVec 1 := Scalar.andi v363 v360
  let v365 : BitVec 32 := Scalar.addi v359 v358
  let v366 : BitVec 32 := Scalar.select v364 v365 v359
  let c1_i32_289 : BitVec 32 := 1#32
  let v367 : BitVec 32 := Scalar.muli v366 c1_i32_289
  let v368 : BitVec 32 := Scalar.addi c0_i32_290 v367
  v368.toNat
def k0_dev13 (d0 : Dev nD) : Nat :=
  let c0_i32_335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_319 : BitVec 32 := 1#32
  let v417 : BitVec 32 := Scalar.addi v2 c1_i32_319
  let c4_i32_320 : BitVec 32 := 4#32
  let c0_i32_321 : BitVec 32 := 0#32
  let v418 : BitVec 1 := Scalar.cmpi .eq c4_i32_320 c0_i32_321
  let c1_i32_322 : BitVec 32 := 1#32
  let v419 : BitVec 32 := Scalar.select v418 c1_i32_322 c4_i32_320
  let v420 : BitVec 32 := Scalar.remsi v417 v419
  let c0_i32_324 : BitVec 32 := 0#32
  let v422 : BitVec 1 := Scalar.cmpi .slt v420 c0_i32_324
  let c0_i32_325 : BitVec 32 := 0#32
  let v423 : BitVec 1 := Scalar.cmpi .slt v419 c0_i32_325
  let v424 : BitVec 1 := Scalar.xori v422 v423
  let c0_i32_323 : BitVec 32 := 0#32
  let v421 : BitVec 1 := Scalar.cmpi .ne v420 c0_i32_323
  let v425 : BitVec 1 := Scalar.andi v424 v421
  let v426 : BitVec 32 := Scalar.addi v420 v419
  let v427 : BitVec 32 := Scalar.select v425 v426 v420
  let c1_i32_334 : BitVec 32 := 1#32
  let v428 : BitVec 32 := Scalar.muli v427 c1_i32_334
  let v429 : BitVec 32 := Scalar.addi c0_i32_335 v428
  v429.toNat
def k0_dev14 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_340 : BitVec 32 := 2#32
  let v438 : BitVec 32 := Scalar.addi v2 c2_i32_340
  let c4_i32_341 : BitVec 32 := 4#32
  let c0_i32_342 : BitVec 32 := 0#32
  let v439 : BitVec 1 := Scalar.cmpi .eq c4_i32_341 c0_i32_342
  let c1_i32_343 : BitVec 32 := 1#32
  let v440 : BitVec 32 := Scalar.select v439 c1_i32_343 c4_i32_341
  let v441 : BitVec 32 := Scalar.remsi v438 v440
  let c0_i32_345 : BitVec 32 := 0#32
  let v443 : BitVec 1 := Scalar.cmpi .slt v441 c0_i32_345
  let c0_i32_346 : BitVec 32 := 0#32
  let v444 : BitVec 1 := Scalar.cmpi .slt v440 c0_i32_346
  let v445 : BitVec 1 := Scalar.xori v443 v444
  let c0_i32_344 : BitVec 32 := 0#32
  let v442 : BitVec 1 := Scalar.cmpi .ne v441 c0_i32_344
  let v446 : BitVec 1 := Scalar.andi v445 v442
  let v447 : BitVec 32 := Scalar.addi v441 v440
  let v448 : BitVec 32 := Scalar.select v446 v447 v441
  let c1_i32_355 : BitVec 32 := 1#32
  let v449 : BitVec 32 := Scalar.muli v448 c1_i32_355
  let v450 : BitVec 32 := Scalar.addi c0_i32_356 v449
  v450.toNat
def k0_dev15 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_361 : BitVec 32 := 3#32
  let v459 : BitVec 32 := Scalar.addi v2 c3_i32_361
  let c4_i32_362 : BitVec 32 := 4#32
  let c0_i32_363 : BitVec 32 := 0#32
  let v460 : BitVec 1 := Scalar.cmpi .eq c4_i32_362 c0_i32_363
  let c1_i32_364 : BitVec 32 := 1#32
  let v461 : BitVec 32 := Scalar.select v460 c1_i32_364 c4_i32_362
  let v462 : BitVec 32 := Scalar.remsi v459 v461
  let c0_i32_366 : BitVec 32 := 0#32
  let v464 : BitVec 1 := Scalar.cmpi .slt v462 c0_i32_366
  let c0_i32_367 : BitVec 32 := 0#32
  let v465 : BitVec 1 := Scalar.cmpi .slt v461 c0_i32_367
  let v466 : BitVec 1 := Scalar.xori v464 v465
  let c0_i32_365 : BitVec 32 := 0#32
  let v463 : BitVec 1 := Scalar.cmpi .ne v462 c0_i32_365
  let v467 : BitVec 1 := Scalar.andi v466 v463
  let v468 : BitVec 32 := Scalar.addi v462 v461
  let v469 : BitVec 32 := Scalar.select v467 v468 v462
  let c1_i32_376 : BitVec 32 := 1#32
  let v470 : BitVec 32 := Scalar.muli v469 c1_i32_376
  let v471 : BitVec 32 := Scalar.addi c0_i32_377 v470
  v471.toNat
def k0_off1 (d0 : Dev nD) (c0_i32_382 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v480 : BitVec 32 := Scalar.subi v2 c0_i32_382
  let c4_i32_383 : BitVec 32 := 4#32
  let c0_i32_384 : BitVec 32 := 0#32
  let v481 : BitVec 1 := Scalar.cmpi .eq c4_i32_383 c0_i32_384
  let c1_i32_385 : BitVec 32 := 1#32
  let v482 : BitVec 32 := Scalar.select v481 c1_i32_385 c4_i32_383
  let v483 : BitVec 32 := Scalar.remsi v480 v482
  let c0_i32_387 : BitVec 32 := 0#32
  let v485 : BitVec 1 := Scalar.cmpi .slt v483 c0_i32_387
  let c0_i32_388 : BitVec 32 := 0#32
  let v486 : BitVec 1 := Scalar.cmpi .slt v482 c0_i32_388
  let v487 : BitVec 1 := Scalar.xori v485 v486
  let c0_i32_386 : BitVec 32 := 0#32
  let v484 : BitVec 1 := Scalar.cmpi .ne v483 c0_i32_386
  let v488 : BitVec 1 := Scalar.andi v487 v484
  let v489 : BitVec 32 := Scalar.addi v483 v482
  let v490 : BitVec 32 := Scalar.select v488 v489 v483
  let c256_i32 : BitVec 32 := 256#32
  let v491 : BitVec 32 := Scalar.muli v490 c256_i32
  let v492 : Index := Scalar.indexCast v491
  let c0_389 : Index := 0#32
  ![v492.toNat, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x256x65 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((8 * (Real.log 2))⁻¹ : ℝ) : EReal)
  | _ => none
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 72
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x1024, .bf16⟩
  | .hbm, ⟨2, _⟩ => ⟨S2x256x16x64, .bf16⟩
  | .hbm, ⟨3, _⟩ => ⟨S2x256x16x64, .bf16⟩
  | .hbm, ⟨4, _⟩ => ⟨S1024x512, .bf16⟩
  | .hbm, ⟨5, _⟩ => ⟨S2x256x512, .f32⟩
  | .hbm, ⟨6, _⟩ => ⟨S512x1024, .f32⟩
  | .hbm, ⟨7, _⟩ => ⟨S2x256x16x64, .f32⟩
  | .hbm, ⟨8, _⟩ => ⟨S2x256x16x64, .f32⟩
  | .hbm, ⟨9, _⟩ => ⟨S1024x512, .f32⟩
  | .hbm, ⟨10, _⟩ => ⟨S2x256x1024, .f32⟩
  | .hbm, ⟨11, _⟩ => ⟨S2x256x16x64, .f32⟩
  | .hbm, ⟨12, _⟩ => ⟨S256, .i32⟩
  | .hbm, ⟨13, _⟩ => ⟨S256x1, .i32⟩
  | .hbm, ⟨14, _⟩ => ⟨S256, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S_, .i32⟩
  | .hbm, ⟨24, _⟩ => ⟨S1x256, .i32⟩
  | .hbm, ⟨25, _⟩ => ⟨S1x256, .i1⟩
  | .hbm, ⟨26, _⟩ => ⟨S_, .i32⟩
  | .hbm, ⟨27, _⟩ => ⟨S256x1, .i32⟩
  | .hbm, ⟨28, _⟩ => ⟨S256x1, .i1⟩
  | .hbm, ⟨29, _⟩ => ⟨S256x256, .i1⟩
  | .hbm, ⟨30, _⟩ => ⟨S256x256, .i1⟩
  | .hbm, ⟨31, _⟩ => ⟨S256x256, .i1⟩
  | .hbm, ⟨32, _⟩ => ⟨S256x256, .i1⟩
  | .hbm, ⟨33, _⟩ => ⟨S2x16x256x256, .f32⟩
  | .hbm, ⟨34, _⟩ => ⟨S_, .f32⟩
  | .hbm, ⟨35, _⟩ => ⟨S2x16x256x256, .f32⟩
  | .hbm, ⟨36, _⟩ => ⟨S2x16x256x256, .f32⟩
  | .hbm, ⟨37, _⟩ => ⟨S1x1x256x256, .i1⟩
  | .hbm, ⟨38, _⟩ => ⟨S_, .f32⟩
  | .hbm, ⟨39, _⟩ => ⟨S_, .f32⟩
  | .hbm, ⟨40, _⟩ => ⟨S2x16x256x256, .i1⟩
  | .hbm, ⟨41, _⟩ => ⟨S2x16x256x256, .f32⟩
  | .hbm, ⟨42, _⟩ => ⟨S2x16x256x256, .f32⟩
  | .hbm, ⟨43, _⟩ => ⟨S_, .f32⟩
  | .hbm, ⟨44, _⟩ => ⟨S2x16x256, .f32⟩
  | .hbm, ⟨45, _⟩ => ⟨S2x16x256x1, .f32⟩
  | .hbm, ⟨46, _⟩ => ⟨S2x16x256x256, .f32⟩
  | .hbm, ⟨47, _⟩ => ⟨S2x16x256x256, .f32⟩
  | .hbm, ⟨48, _⟩ => ⟨S2x16x256x256, .f32⟩
  | .hbm, ⟨49, _⟩ => ⟨S_, .i1⟩
  | .hbm, ⟨50, _⟩ => ⟨S256, .i1⟩
  | .hbm, ⟨51, _⟩ => ⟨S1x1x256x1, .i1⟩
  | .hbm, ⟨52, _⟩ => ⟨S_, .f32⟩
  | .hbm, ⟨53, _⟩ => ⟨S2x16x256, .f32⟩
  | .hbm, ⟨54, _⟩ => ⟨S2x16x256x1, .f32⟩
  | .hbm, ⟨55, _⟩ => ⟨S_, .f32⟩
  | .hbm, ⟨56, _⟩ => ⟨S_, .f32⟩
  | .hbm, ⟨57, _⟩ => ⟨S2x16x256x1, .i1⟩
  | .hbm, ⟨58, _⟩ => ⟨S2x16x256x1, .f32⟩
  | .hbm, ⟨59, _⟩ => ⟨S2x16x256x1, .f32⟩
  | .hbm, ⟨60, _⟩ => ⟨S2x16x256x256, .f32⟩
  | .hbm, ⟨61, _⟩ => ⟨S2x16x256x256, .f32⟩
  | .hbm, ⟨62, _⟩ => ⟨S1x1x256x1, .i1⟩
  | .hbm, ⟨63, _⟩ => ⟨S_, .f32⟩
  | .hbm, ⟨64, _⟩ => ⟨S_, .f32⟩
  | .hbm, ⟨65, _⟩ => ⟨S2x16x256x256, .i1⟩
  | .hbm, ⟨66, _⟩ => ⟨S2x16x256x256, .f32⟩
  | .hbm, ⟨67, _⟩ => ⟨S2x16x256x256, .f32⟩
  | .hbm, ⟨68, _⟩ => ⟨S2x16x64x256, .f32⟩
  | .hbm, ⟨69, _⟩ => ⟨S2x256x16x64, .f32⟩
  | .hbm, ⟨70, _⟩ => ⟨S2x256x1024, .f32⟩
  | .hbm, ⟨71, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Protocol.lean ====
/-
  The kernel's exchange as a schedule of rounds. Four devices; device `c` fills slot 0 of its communication buffer with its own context (four pieces of 256 x 128, one for each
  batch and half), copies each piece into slot `s` of device `c + s` for `s = 1, 2, 3`, and then reads all four slots.

  - The barrier semaphore of a device has one round of three units, one from each other device. With its unit a device hands over the slot that the signalled device will write on it.
  - A receive semaphore (slot, piece) has one round, paid by the copy from device `c - s`; it hands over the piece at that device's context.
  - A send semaphore (slot, piece) has one round, paid by the device's own copy; it hands back the share of the source piece that the copy read.
-/
module

public import proofs.«01_k».proof.Proof.Gen.KernelIdeal.Skeleton
public import proofs.«01_k».proof.Proof.Gen.KernelIdeal.Regions
public import Idealize.ShloMosaic.Lib.Pipeline.RegionTalk
public import Idealize.ShloMosaic.Lib.Pipeline.TalkSites
public import Idealize.ShloMosaic.Lib.Pipeline.ValueKit.Geometry

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (Above mayWait_of)
open Idealize.ShloMosaic.TalkSites (Pay tallyL Fam)
open Cert.KernelIdeal.Gen

variable {F : FTy → Type} [FloatOps F] [Named F]

/-! ## Devices -/

/-- The device `δ + 1` places after `c`: where `c` copies its context into slot `δ + 1`. -/
def sh (c : Dev nD) (δ : Fin 3) : Dev nD := ⟨(c.val + δ.val + 1) % 4, Nat.mod_lt _ (by decide)⟩
/-- The device `s` places before `c`: whose context slot `s` of device `c` receives. -/
def back (c : Dev nD) (s : Fin 4) : Dev nD := ⟨(c.val + 4 - s.val) % 4, Nat.mod_lt _ (by decide)⟩

theorem sh_rev (c : Dev nD) (δ : Fin 3) : sh (sh c δ) δ.rev = c := by revert c δ; decide
theorem back_sh (c : Dev nD) (δ : Fin 3) : back (sh c δ) δ.succ = c := by revert c δ; decide
theorem back_zero (c : Dev nD) : back c 0 = c := by revert c; decide
/-- A step forward permutes the devices. -/
def shE (δ : Fin 3) : Dev nD ≃ Dev nD := ⟨fun c => sh c δ, fun c => sh c δ.rev, fun c => sh_rev c δ, fun c => by revert c δ; decide⟩

/-! ## Pieces of the communication buffer -/

/-- The communication buffer, whole. -/
abbrev commM : Memref sig .tc .vmem S4x2x256x256 .bf16 := Memref.whole cc0_scratch0

theorem inb_piece (st k : Fin 4) : ∀ a, (![st.val, k.val / 2, 0, 128 * (k.val % 2)] : Fin 4 → ℕ) a + S1x1x256x128.size a ≤ S4x2x256x256.size a := by
  revert st k; decide
theorem inb_head (h : Fin 8) : ∀ a, (![0, h.val / 4, 0, 64 * (h.val % 4)] : Fin 4 → ℕ) a + S1x1x256x64.size a ≤ S4x2x256x256.size a := by
  revert h; decide
theorem inb_slab (st : Fin 4) (b : Fin 2) : ∀ a, (![st.val, b.val, 0, 0] : Fin 4 → ℕ) a + S1x1x256x256.size a ≤ S4x2x256x256.size a := by
  revert st b; decide

/-- Piece `k` of slot `st`: batch `k / 2`, columns from `128 * (k % 2)`. -/
abbrev pieceR (st k : Fin 4) : Rect S4x2x256x256 := Rect.unit (s := S4x2x256x256) ![st.val, k.val / 2, 0, 128 * (k.val % 2)] S1x1x256x128.size (inb_piece st k)
/-- Head `h`'s columns of slot 0. -/
abbrev headR (h : Fin 8) : Rect S4x2x256x256 := Rect.unit (s := S4x2x256x256) ![0, h.val / 4, 0, 64 * (h.val % 4)] S1x1x256x64.size (inb_head h)
/-- Batch `b` of slot `st`. -/
abbrev slabR (st : Fin 4) (b : Fin 2) : Rect S4x2x256x256 := Rect.unit (s := S4x2x256x256) ![st.val, b.val, 0, 0] S1x1x256x256.size (inb_slab st b)

/-- A piece as the copies name it. -/
abbrev pieceM (st k : Fin 4) : Memref sig .tc .vmem S256x128 .bf16 :=
  (commM.slice (pieceR st k) (fun _ => rfl)).squeeze S256x128 squeezes_S1x1x256x128_S256x128

/-- The buffer's indices. -/
abbrev CIdx : Type := S4x2x256x256.Idx

theorem ib0 (i : CIdx) : (i 0).val < 4 := (i 0).isLt
theorem ib1 (i : CIdx) : (i 1).val < 2 := (i 1).isLt
theorem ib2 (i : CIdx) : (i 2).val < 256 := (i 2).isLt
theorem ib3 (i : CIdx) : (i 3).val < 256 := (i 3).isLt

theorem mem_piece (st k : Fin 4) (i : CIdx) : i ∈ (pieceR st k).set ↔ (i 0).val = st.val ∧ (i 1).val = k.val / 2 ∧ (i 3).val / 128 = k.val % 2 := by
  have h0 := ib0 i; have h1 := ib1 i; have h2 := ib2 i; have h3 := ib3 i
  rw [Rect.mem_set_unit, ValueKit.forall_fin_iff_conj]
  show ((st.val ≤ (i 0).val ∧ (i 0).val < st.val + 1) ∧ (k.val / 2 ≤ (i 1).val ∧ (i 1).val < k.val / 2 + 1) ∧ (0 ≤ (i 2).val ∧ (i 2).val < 0 + 256)
    ∧ (128 * (k.val % 2) ≤ (i 3).val ∧ (i 3).val < 128 * (k.val % 2) + 128)) ↔ _
  omega

theorem mem_head (h : Fin 8) (i : CIdx) : i ∈ (headR h).set ↔ (i 0).val = 0 ∧ (i 1).val = h.val / 4 ∧ (i 3).val / 64 = h.val % 4 := by
  have h0 := ib0 i; have h1 := ib1 i; have h2 := ib2 i; have h3 := ib3 i
  rw [Rect.mem_set_unit, ValueKit.forall_fin_iff_conj]
  show ((0 ≤ (i 0).val ∧ (i 0).val < 0 + 1) ∧ (h.val / 4 ≤ (i 1).val ∧ (i 1).val < h.val / 4 + 1) ∧ (0 ≤ (i 2).val ∧ (i 2).val < 0 + 256)
    ∧ (64 * (h.val % 4) ≤ (i 3).val ∧ (i 3).val < 64 * (h.val % 4) + 64)) ↔ _
  omega

theorem mem_slab (st : Fin 4) (b : Fin 2) (i : CIdx) : i ∈ (slabR st b).set ↔ (i 0).val = st.val ∧ (i 1).val = b.val := by
  have h0 := ib0 i; have h1 := ib1 i; have h2 := ib2 i; have h3 := ib3 i
  rw [Rect.mem_set_unit, ValueKit.forall_fin_iff_conj]
  show ((st.val ≤ (i 0).val ∧ (i 0).val < st.val + 1) ∧ (b.val ≤ (i 1).val ∧ (i 1).val < b.val + 1) ∧ (0 ≤ (i 2).val ∧ (i 2).val < 0 + 256)
    ∧ (0 ≤ (i 3).val ∧ (i 3).val < 0 + 256)) ↔ _
  omega

/-- The two halves of batch `b`, as pieces. -/
def pk (b : Fin 2) (hp : Fin 2) : Fin 4 := ⟨2 * b.val + hp.val, by have := b.isLt; have := hp.isLt; omega⟩
/-- The two heads of piece `k`. -/
def hk (k : Fin 4) (e : Fin 2) : Fin 8 := ⟨2 * k.val + e.val, by have := k.isLt; have := e.isLt; omega⟩

theorem slab_eq (st : Fin 4) (b : Fin 2) : (slabR st b).set = (pieceR st (pk b 0)).set ∪ (pieceR st (pk b 1)).set := by
  ext i
  have h3 := ib3 i; have h4 := b.isLt
  rw [Finset.mem_union, mem_slab, mem_piece, mem_piece]
  show _ ↔ (_ ∧ _ = (2 * b.val + 0) / 2 ∧ _ = (2 * b.val + 0) % 2) ∨ (_ ∧ _ = (2 * b.val + 1) / 2 ∧ _ = (2 * b.val + 1) % 2)
  omega

theorem slab_disj (st : Fin 4) (b : Fin 2) : Disjoint (pieceR st (pk b 0)).set (pieceR st (pk b 1)).set := by
  rw [Finset.disjoint_left]
  intro i h h'
  rw [mem_piece] at h h'
  have e : (pk b 0).val % 2 = 0 := by show (2 * b.val + 0) % 2 = 0; omega
  have e' : (pk b 1).val % 2 = 1 := by show (2 * b.val + 1) % 2 = 1; omega
  omega

theorem piece_eq (k : Fin 4) : (pieceR 0 k).set = (headR (hk k 0)).set ∪ (headR (hk k 1)).set := by
  ext i
  have h3 := ib3 i; have h4 := k.isLt
  rw [Finset.mem_union, mem_piece, mem_head, mem_head]
  show (_ = 0 ∧ _ ∧ _) ↔ (_ ∧ _ = (2 * k.val + 0) / 4 ∧ _ = (2 * k.val + 0) % 4) ∨ (_ ∧ _ = (2 * k.val + 1) / 4 ∧ _ = (2 * k.val + 1) % 4)
  omega

theorem piece_disj (k : Fin 4) : Disjoint (headR (hk k 0)).set (headR (hk k 1)).set := by
  rw [Finset.disjoint_left]
  intro i h h'
  rw [mem_head] at h h'
  have e : (hk k 0).val % 4 = (2 * k.val) % 4 := rfl
  have e' : (hk k 1).val % 4 = (2 * k.val + 1) % 4 := rfl
  omega

theorem pieces_disj (x y : Fin 4 × Fin 4) (h : x ≠ y) : Disjoint (pieceR x.1 x.2).set (pieceR y.1 y.2).set := by
  rw [Finset.disjoint_left]
  intro i h1 h2
  rw [mem_piece] at h1 h2
  refine h (Prod.ext (Fin.ext (h1.1.symm.trans h2.1)) (Fin.ext ?_))
  omega

theorem pieces_univ : (Finset.univ.biUnion fun x : Fin 4 × Fin 4 => (pieceR x.1 x.2).set) = (Finset.univ : Finset CIdx) := by
  ext i
  have h0 := ib0 i; have h1 := ib1 i; have h3 := ib3 i
  refine ⟨fun _ => Finset.mem_univ _, fun _ => Finset.mem_biUnion.mpr ⟨(⟨(i 0).val, h0⟩, ⟨2 * (i 1).val + (i 3).val / 128, by omega⟩), Finset.mem_univ _, ?_⟩⟩
  rw [mem_piece]
  dsimp only
  omega

theorem pieceM_set (st k : Fin 4) : (pieceM st k).view.set = (pieceR st k).set :=
  (View.set_reshape _ _).trans (View.set_slice_whole cc0_scratch0 (pieceR st k))

/-! ## The contexts -/

section Contents

variable (W : Dev nD → Valuation τ sig (Elt F))

/-- A device's activations, query projection, keys and values, as its launch finds them. -/
abbrev xIn (c : Dev nD) : Vec F S2x256x512 .bf16 := W c main_arg0
abbrev qIn (c : Dev nD) : Vec F S512x256 .bf16 := W c main_v9
abbrev kIn (c : Dev nD) : Vec F S8x64x256 .bf16 := W c main_v11
abbrev vIn (c : Dev nD) : Vec F S8x256x65 .bf16 := W c main_v15
abbrev oIn (c : Dev nD) : Vec F S1024x512 .bf16 := W c main_arg4

theorem inb_k (h : Fin 8) : ∀ a, (![h.val, 0, 0] : Fin 3 → ℕ) a + S1x64x256.size a ≤ S8x64x256.size a := by revert h; decide
theorem inb_v (h : Fin 8) : ∀ a, (![h.val, 0, 0] : Fin 3 → ℕ) a + S1x256x65.size a ≤ S8x256x65.size a := by revert h; decide

/-- Head `h`'s keys and values, as loaded. -/
abbrev kHead (c : Dev nD) (h : Fin 8) : Vec F S1x64x256 .bf16 :=
  (Memref.whole cc0_stg2_0).view.readAt (Elt F) (Rect.unit (s := S8x64x256) ![h.val, 0, 0] S1x64x256.size (inb_k h)).toLoadRect (kIn W c)
@[inherit_doc kHead] abbrev vHead (c : Dev nD) (h : Fin 8) : Vec F S1x256x65 .bf16 :=
  (Memref.whole cc0_stg3_0).view.readAt (Elt F) (Rect.unit (s := S8x256x65) ![h.val, 0, 0] S1x256x65.size (inb_v h)).toLoadRect (vIn W c)

/-- A device's scaled queries. -/
abbrev q2 (c : Dev nD) : FVec F S512x256 .bf16 := k0_pay2 (xIn W c) (qIn W c)

/-- What device `c` stores for head `h`. -/
def headv (c : Dev nD) : Fin 8 → FVec F S1x1x256x64 .bf16
  | 0 => k0_pay4 (k0_pay1 (F := F)) (k0_pay3 (xIn W c) (qIn W c)) (kHead W c 0) (vHead W c 0)
  | 1 => k0_pay6 (k0_pay5 (k0_pay1 (F := F)) (q2 W c) (kHead W c 1) (vHead W c 1))
  | 2 => k0_pay7 (k0_pay1 (F := F)) (q2 W c) (kHead W c 2) (vHead W c 2)
  | 3 => k0_pay9 (k0_pay8 (k0_pay1 (F := F)) (q2 W c) (kHead W c 3)) (vHead W c 3)
  | 4 => k0_pay11 (k0_pay10 (k0_pay1 (F := F)) (q2 W c) (kHead W c 4) (vHead W c 4))
  | 5 => k0_pay12 (k0_pay1 (F := F)) (q2 W c) (kHead W c 5) (vHead W c 5)
  | 6 => k0_pay14 (k0_pay13 (k0_pay1 (F := F)) (q2 W c) (kHead W c 6)) (vHead W c 6)
  | 7 => k0_pay15 (k0_pay1 (F := F)) (q2 W c) (kHead W c 7) (vHead W c 7)

/-- The head that an index of the buffer lies in, and its index within the head. -/
def headOf (i : CIdx) : Fin 8 := ⟨4 * (i 1).val + (i 3).val / 64, by have := ib1 i; have := ib3 i; omega⟩
@[inherit_doc headOf] def inHead (i : CIdx) : S1x1x256x64.Idx :=
  fun a => match a with
    | ⟨0, _⟩ => (⟨0, Nat.one_pos⟩ : Fin 1)
    | ⟨1, _⟩ => (⟨0, Nat.one_pos⟩ : Fin 1)
    | ⟨2, _⟩ => (⟨(i 2).val, ib2 i⟩ : Fin 256)
    | ⟨3, _⟩ => (⟨(i 3).val % 64, Nat.mod_lt _ (by decide)⟩ : Fin 64)
    | ⟨_ + 4, h⟩ => absurd h (Nat.not_lt.2 (Nat.le_add_left _ _))

/-- What device `c`'s communication buffer holds at the end: slot `s` holds the context of the device `s` places before it. -/
def ctx (c : Dev nD) : CIdx → Elt F .bf16 := fun i => headv W (back c (i 0)) (headOf i) (inHead i)

theorem ctx_of_head (c : Dev nD) (h : Fin 8) (x : S1x1x256x64.Idx) (i : CIdx) (h0 : (i 0).val = 0) (h1 : (i 1).val = h.val / 4) (h2 : (i 2).val = (x 2).val)
    (h3 : (i 3).val = 64 * (h.val % 4) + (x 3).val) : ctx W c i = headv W c h x := by
  have x3 : (x 3).val < 64 := (x 3).isLt
  have e0 : back c (i 0) = c := by rw [show i 0 = (0 : Fin 4) from Fin.ext h0]; exact back_zero c
  have eh : headOf i = h := Fin.ext (by show 4 * (i 1).val + (i 3).val / 64 = h.val; omega)
  have ex : inHead i = x := by
    funext a
    match a with
    | ⟨0, _⟩ => exact Subsingleton.elim (α := Fin 1) _ _
    | ⟨1, _⟩ => exact Subsingleton.elim (α := Fin 1) _ _
    | ⟨2, _⟩ => exact Fin.ext h2
    | ⟨3, _⟩ => exact Fin.ext (by show (i 3).val % 64 = (x 3).val; omega)
  show headv W (back c (i 0)) (headOf i) (inHead i) = _
  rw [e0, eh, ex]

/-- Storing a head's context on its columns of slot 0 makes them the context's. -/
theorem store_head (c : Dev nD) (h : Fin 8) (f : CIdx → Elt F .bf16) (i : CIdx) (hi : i ∈ (headR h).set) :
    (commM.access (headR h)).write (Elt F) f (headv W c h) Finset.univ i = ctx W c i := by
  have hi' : i ∈ (commM.access (headR h)).set := by rw [show (commM.access (headR h)).set = (headR h).set from View.set_slice_whole cc0_scratch0 (headR h)]; exact hi
  obtain ⟨x, -, rfl⟩ := Finset.mem_map.mp hi'
  refine (View.write_emb_of_mem (v := commM.access (headR h)) f (headv W c h) (Finset.mem_univ x)).trans ?_
  have e (a) := ValueKit.view_emb_slice_whole_unit_val cc0_scratch0 ![0, h.val / 4, 0, 64 * (h.val % 4)] S1x1x256x64.size (inb_head h) x a
  have hx0 : (x 0).val < 1 := (x 0).isLt
  have hx1 : (x 1).val < 1 := (x 1).isLt
  exact (ctx_of_head W c h x _ ((e 0).trans (by show 0 + (x 0).val = 0; omega)) ((e 1).trans (by show h.val / 4 + (x 1).val = _; omega))
    ((e 2).trans (Nat.zero_add _)) (e 3)).symm

theorem ctx_shift (c : Dev nD) (δ : Fin 3) (i j : CIdx) (hi : (i 0).val = 0) (hj : (j 0).val = δ.val + 1) (h : ∀ a : Fin 4, a ≠ 0 → (i a).val = (j a).val) :
    ctx W c i = ctx W (sh c δ) j := by
  have e0 : back c (i 0) = c := by rw [show i 0 = (0 : Fin 4) from Fin.ext hi]; exact back_zero c
  have e1 : back (sh c δ) (j 0) = c := by rw [show j 0 = δ.succ from Fin.ext hj]; exact back_sh c δ
  have eh : headOf i = headOf j := Fin.ext (by show 4 * (i 1).val + (i 3).val / 64 = 4 * (j 1).val + (j 3).val / 64; rw [h 1 (by decide), h 3 (by decide)])
  have ex : inHead i = inHead j := by
    funext a
    match a with
    | ⟨0, _⟩ => rfl
    | ⟨1, _⟩ => rfl
    | ⟨2, _⟩ => exact Fin.ext (h 2 (by decide))
    | ⟨3, _⟩ => exact Fin.ext (by show (i 3).val % 64 = (j 3).val % 64; rw [h 3 (by decide)])
  show headv W (back c (i 0)) (headOf i) (inHead i) = headv W (back (sh c δ) (j 0)) (headOf j) (inHead j)
  rw [e0, e1, eh, ex]

/-- A piece of a device's own context, copied, is the piece of the context that the slot it lands on is to hold. -/
theorem landed (c : Dev nD) (δ : Fin 3) (k : Fin 4) (f : CIdx → Elt F .bf16) (i : CIdx) (hi : i ∈ (pieceM δ.succ k).view.set) :
    (pieceM δ.succ k).view.write (Elt F) f ((pieceM 0 k).view.read (Elt F) (ctx W c)) Finset.univ i = ctx W (sh c δ) i := by
  obtain ⟨x, -, rfl⟩ := Finset.mem_map.mp hi
  refine (View.write_emb_of_mem (v := (pieceM δ.succ k).view) f _ (Finset.mem_univ x)).trans ?_
  have e (st : Fin 4) (a) : (((pieceM st k).view.emb x a : Fin _) : ℕ) = _ :=
    ValueKit.view_emb_slice_whole_unit_val cc0_scratch0 ![st.val, k.val / 2, 0, 128 * (k.val % 2)] S1x1x256x128.size (inb_piece st k)
      (Shape.reshapeEquiv (s := S1x1x256x128) (s' := S256x128) squeezes_S1x1x256x128_S256x128.numel_eq x) a
  refine ctx_shift W c δ ((pieceM 0 k).view.emb x) ((pieceM δ.succ k).view.emb x) ?_ ?_ ?_
  · rw [e]; have := (Shape.reshapeEquiv (s := S1x1x256x128) (s' := S256x128) squeezes_S1x1x256x128_S256x128.numel_eq x 0).isLt
    show 0 + _ = 0
    rw [Nat.lt_one_iff.mp this]
  · rw [e]; have := (Shape.reshapeEquiv (s := S1x1x256x128) (s' := S256x128) squeezes_S1x1x256x128_S256x128.numel_eq x 0).isLt
    show δ.val + 1 + _ = _
    rw [Nat.lt_one_iff.mp this]
  · intro a ha
    rw [e, e]
    match a, ha with
    | ⟨1, _⟩, _ => rfl
    | ⟨2, _⟩, _ => rfl
    | ⟨3, _⟩, _ => rfl

end Contents

end Cert.KernelIdeal.Own

end
-- ==== Proof.Sched.lean ====
/-
  The schedule of the exchange over the contents that `Protocol` names, and what a device holds of it between two steps.
-/
module

public import proofs.«01_k».proof.Proof.Protocol

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (Above mayWait_of mem_L')
open Idealize.ShloMosaic.TalkSites (Pay tallyL tallyL_pos Fam)
open Idealize.ShloMosaic.Transfers (shareTok shareDrop)
open Cert.KernelIdeal.Gen

variable {F : FTy → Type} [FloatOps F] [Named F]

/-- The ghost components: the staging rounds' and the exchange's own. -/
abbrev UU : Type := UR sig nD τ × URounds (GSem nD τ sig) (Fin 3)

local notation "𝕄" => MT nD τ sig ℕ (Elt F) ℕ UU ℕ

abbrev EP : Emb (UR sig nD τ) 𝕄 := embL
abbrev ER : Emb (URounds (GSem nD τ sig) (Fin 3)) 𝕄 := embR

/-! ## Cells -/

/-- Which slot and which piece of it: slot `x.1 + 1`, piece `x.2`. -/
abbrev Ex : Type := Fin 3 × Fin 4

abbrev barS : Sem sig := (SemArray.scalar (sig.barrier 0 rfl) : Sems sig S_).sem
abbrev sendS (x : Ex) : DmaSem sig := (⟨10 + 4 * x.1.val + x.2.val, by have := x.1.isLt; have := x.2.isLt; omega⟩ : Fin 38)
abbrev recvS (x : Ex) : DmaSem sig := (⟨26 + 4 * x.1.val + x.2.val, by have := x.1.isLt; have := x.2.isLt; omega⟩ : Fin 38)

abbrev barCell (c : Dev nD) : GSem nD τ sig := ((c : Thread nD τ), .reg barS)
abbrev sendCell (c : Dev nD) (x : Ex) : GSem nD τ sig := ((c : Thread nD τ), .dma (sendS x))
abbrev recvCell (c : Dev nD) (x : Ex) : GSem nD τ sig := ((c : Thread nD τ), .dma (recvS x))

/-- What a transfer semaphore serves: a send (`false`) or a receive (`true`), and of which piece. -/
def dec (s : DmaSem sig) : Option (Bool × Ex) :=
  if 10 ≤ s.val ∧ s.val < 22 then some (false, (⟨(s.val - 10) / 4 % 3, Nat.mod_lt _ (by decide)⟩, ⟨(s.val - 10) % 4, Nat.mod_lt _ (by decide)⟩))
  else if 26 ≤ s.val then some (true, (⟨(s.val - 26) / 4 % 3, Nat.mod_lt _ (by decide)⟩, ⟨(s.val - 26) % 4, Nat.mod_lt _ (by decide)⟩))
  else none

theorem dec_send (x : Ex) : dec (sendS x) = some (false, x) := by
  obtain ⟨a, b⟩ := x; revert a b; decide
theorem dec_recv (x : Ex) : dec (recvS x) = some (true, x) := by
  obtain ⟨a, b⟩ := x; revert a b; decide

/-- What one copy of a piece credits. -/
abbrev N : ℕ := (pieceM 1 0).view.dmaCredit
theorem N_pos : 0 < N := View.dmaCredit_pos _ (by decide)

section Schedule

variable (W : Dev nD → Valuation τ sig (Elt F))

/-- Part of device `c`'s communication buffer at share `q`. -/
abbrev cPts (c : Dev nD) (S : Finset CIdx) (q : PosShare TreeShare) (f : CIdx → Elt F .bf16) : sProp 𝕄 :=
  ((c : Thread nD τ).loc cc0_scratch0 : Loc nD τ sig) ↦[S]{q} f

/-- A piece of device `c`'s buffer at contents not chosen: where the copy from another device lands. -/
abbrev pad (c : Dev nD) (x : Ex) : sProp 𝕄 := iprop(∃ f : CIdx → Elt F .bf16, cPts c (pieceR x.1.succ x.2).set fullShare f)

/-- The unit of the `d`-th other device hands over the slot of it that device `c` will write. -/
def barPay (c : Dev nD) (d : Fin 3) : sProp 𝕄 :=
  bigSep Finset.univ fun k : Fin 4 => iprop(pad (F := F) (sh c d) (d, k) ∗ reached ER (recvCell (sh c d) (d, k)) 0)
/-- The landing hands over the piece, at the context it carries. -/
def recvPay (c : Dev nD) (x : Ex) : sProp 𝕄 := cPts c (pieceR x.1.succ x.2).set fullShare (ctx W c)
/-- A read of the source piece hands back the share it was lent. -/
def sendPay (c : Dev nD) (x : Ex) : sProp 𝕄 := cPts c (pieceR 0 x.2).set (shareTok fullShare 3 x.1) (ctx W c)

def dutiesOf : SemLoc sig → Finset (Fin 3)
  | .reg _ => Finset.univ
  | .dma s => if (dec s).isSome then {0} else ∅
def amountOf : SemLoc sig → ℕ
  | .reg _ => 1
  | .dma _ => N
def payOf (c : Dev nD) : SemLoc sig → Fin 3 → sProp 𝕄
  | .reg _, d => barPay c d
  | .dma s, _ => match dec s with
    | none => iprop(emp)
    | some (false, x) => sendPay W c x
    | some (true, x) => recvPay W c x

/-- One round on every cell of the exchange. -/
def exRd : Rounds.Schedule (GSem nD τ sig) (Fin 3) 𝕄 where
  duties g r := if r = 0 ∧ g.1.2 = .tc then dutiesOf g.2 else ∅
  unitless _ := False
  amount g _ _ := amountOf g.2
  payload g _ d := payOf W g.1.1 g.2 d
  amount_pos g _ _ _ := by
    show 0 < amountOf g.2
    cases g.2 with
    | reg _ => exact Nat.one_pos
    | dma _ => exact N_pos

instance barPay_storable (c : Dev nD) (d : Fin 3) : BI.Storable (upEmb : UEmb _ 𝕄) (barPay (F := F) c d) := by
  unfold barPay pad; infer_instance

instance exRd_payload_storable (g : GSem nD τ sig) (r : ℕ) (d : Fin 3) : BI.Storable (upEmb : UEmb _ 𝕄) ((exRd W).payload g r d) := by
  show BI.Storable upEmb (payOf W g.1.1 g.2 d)
  cases g.2 with
  | reg s => exact barPay_storable _ _
  | dma s =>
    show BI.Storable upEmb (match dec s with | none => iprop(emp) | some (false, x) => sendPay W g.1.1 x | some (true, x) => recvPay W g.1.1 x)
    rcases dec s with _ | ⟨_ | _, x⟩
    · infer_instance
    · show BI.Storable upEmb (sendPay W g.1.1 x); unfold sendPay; infer_instance
    · show BI.Storable upEmb (recvPay W g.1.1 x); unfold recvPay; infer_instance

variable (c : Dev nD) (x : Ex)

theorem duties_bar : (exRd W).duties (barCell c) 0 = Finset.univ := by dsimp only [exRd]; exact if_pos ⟨rfl, rfl⟩
theorem duties_send : (exRd W).duties (sendCell c x) 0 = {0} := by
  dsimp only [exRd]; exact (if_pos ⟨rfl, rfl⟩).trans (if_pos (by rw [dec_send]; rfl))
theorem duties_recv : (exRd W).duties (recvCell c x) 0 = {0} := by
  dsimp only [exRd]; exact (if_pos ⟨rfl, rfl⟩).trans (if_pos (by rw [dec_recv]; rfl))
theorem duties_later (g : GSem nD τ sig) : ∀ r, 1 ≤ r → (exRd W).duties g r = ∅ := fun r hr => by dsimp only [exRd]; exact if_neg fun h => by omega

theorem expect_bar : (exRd W).expect (barCell c) 0 = 3 := by
  unfold Schedule.expect Schedule.amountOf; rw [duties_bar]; rfl
theorem expect_send : (exRd W).expect (sendCell c x) 0 = N := by
  unfold Schedule.expect Schedule.amountOf; rw [duties_send, Finset.sum_singleton]; rfl
theorem expect_recv : (exRd W).expect (recvCell c x) 0 = N := by
  unfold Schedule.expect Schedule.amountOf; rw [duties_recv, Finset.sum_singleton]; rfl

theorem payload_send (d : Fin 3) : (exRd W).payload (sendCell c x) 0 d = sendPay W c x := by
  show (match dec (sendS x) with | none => iprop(emp) | some (false, x) => sendPay W c x | some (true, x) => recvPay W c x) = _
  rw [dec_send]
theorem payload_recv (d : Fin 3) : (exRd W).payload (recvCell c x) 0 d = recvPay W c x := by
  show (match dec (recvS x) with | none => iprop(emp) | some (false, x) => sendPay W c x | some (true, x) => recvPay W c x) = _
  rw [dec_recv]

theorem rest_bar : bigSep ((exRd W).duties (barCell c) 0 \ ∅) (fun d => (exRd W).payload (barCell c) 0 d) = bigSep Finset.univ fun d => barPay (F := F) c d := by
  rw [Finset.sdiff_empty, duties_bar]; rfl
theorem rest_send : bigSep ((exRd W).duties (sendCell c x) 0 \ ∅) (fun d => (exRd W).payload (sendCell c x) 0 d) = sendPay W c x := by
  rw [Finset.sdiff_empty, duties_send, bigSep_singleton, payload_send]
theorem rest_recv : bigSep ((exRd W).duties (recvCell c x) 0 \ ∅) (fun d => (exRd W).payload (recvCell c x) 0 d) = recvPay W c x := by
  rw [Finset.sdiff_empty, duties_recv, bigSep_singleton, payload_recv]

end Schedule

/-! ## Who pays what: the family of cells and tokens -/

/-- The exchange's transfer semaphores. -/
def sites : Finset (SemLoc sig) := (Finset.univ.image fun x : Ex => (.dma (sendS x) : SemLoc sig)) ∪ Finset.univ.image fun x : Ex => (.dma (recvS x) : SemLoc sig)

/-- The payments that device `c` makes: three units, and for each copy one on its own send cell and one on the receiver's cell. -/
def paid (c : Dev nD) : Finset (GSem nD τ sig × ℕ × Fin 3) :=
  (Finset.univ.image fun δ : Fin 3 => (barCell (sh c δ), 0, δ.rev))
    ∪ ((Finset.univ.image fun x : Ex => (sendCell c x, 0, (0 : Fin 3))) ∪ Finset.univ.image fun x : Ex => (recvCell (sh c x.1) x, 0, (0 : Fin 3)))

/-- Whose payment a triple is. -/
def payer (p : GSem nD τ sig × ℕ × Fin 3) : Dev nD :=
  match p.1.2 with
  | .reg _ => sh p.1.1.1 p.2.2
  | .dma s => match dec s with
    | some (true, x) => back p.1.1.1 x.1.succ
    | _ => p.1.1.1

theorem payer_paid (c : Dev nD) (p : GSem nD τ sig × ℕ × Fin 3) (hp : p ∈ paid c) : payer p = c := by
  unfold paid at hp
  rw [Finset.mem_union, Finset.mem_union] at hp
  rcases hp with h | h | h
  · obtain ⟨δ, -, rfl⟩ := Finset.mem_image.mp h
    exact sh_rev c δ
  · obtain ⟨x, -, rfl⟩ := Finset.mem_image.mp h
    show (match dec (sendS x) with | some (true, x) => back c x.1.succ | _ => c) = c
    rw [dec_send]
  · obtain ⟨x, -, rfl⟩ := Finset.mem_image.mp h
    show (match dec (recvS x) with | some (true, y) => back (sh c x.1) y.1.succ | _ => sh c x.1) = c
    rw [dec_recv]
    exact back_sh c x.1

/-- The exchange's cells and tokens. -/
def fam : Fam nD τ sig (Fin 3) 1 where
  bar := .reg barS
  dorm _ := sites
  toks c _ := paid c
  semKey _ := 0
  hsem j _ _ := (Subsingleton.elim j 0).symm
  hbar _ h := by
    unfold sites at h
    rw [Finset.mem_union] at h
    rcases h with h | h <;> (obtain ⟨x, -, e⟩ := Finset.mem_image.mp h; cases e)
  tokKey p := (payer p, 0)
  htok c j p hp := Prod.ext (payer_paid c p hp) (Subsingleton.elim _ _)

theorem send_mem (x : Ex) : (.dma (sendS x) : SemLoc sig) ∈ sites := Finset.mem_union_left _ (Finset.mem_image_of_mem _ (Finset.mem_univ x))
theorem recv_mem (x : Ex) : (.dma (recvS x) : SemLoc sig) ∈ sites := Finset.mem_union_right _ (Finset.mem_image_of_mem _ (Finset.mem_univ x))

theorem sendS_inj : Function.Injective fun x : Ex => (.dma (sendS x) : SemLoc sig) := fun x y h => by
  have h' : dec (sendS x) = dec (sendS y) := by injection h with h; rw [h]
  rw [dec_send, dec_send] at h'
  exact (Prod.ext_iff.mp (Option.some.inj h')).2
theorem recvS_inj : Function.Injective fun x : Ex => (.dma (recvS x) : SemLoc sig) := fun x y h => by
  have h' : dec (recvS x) = dec (recvS y) := by injection h with h; rw [h]
  rw [dec_recv, dec_recv] at h'
  exact (Prod.ext_iff.mp (Option.some.inj h')).2
theorem send_ne_recv (x y : Ex) : (.dma (sendS x) : SemLoc sig) ≠ .dma (recvS y) := fun h => by
  have h' : dec (sendS x) = dec (recvS y) := by injection h with h; rw [h]
  rw [dec_send, dec_recv] at h'
  exact absurd (Prod.ext_iff.mp (Option.some.inj h')).1 Bool.false_ne_true

/-! ## Dues -/

/-- The copies in program order. -/
def sendOrder : List Ex := [(0, 0), (1, 0), (2, 0), (0, 1), (1, 1), (2, 1), (0, 2), (1, 2), (2, 2), (0, 3), (1, 3), (2, 3)]
/-- The receive waits in program order. -/
def recvOrder : List Ex := [(0, 0), (0, 1), (0, 2), (0, 3), (2, 0), (2, 1), (2, 2), (2, 3), (1, 0), (1, 1), (1, 2), (1, 3)]
/-- The send waits in program order. -/
def drainOrder : List Ex := [(0, 0), (0, 1), (0, 2), (0, 3), (1, 0), (1, 1), (1, 2), (1, 3), (2, 0), (2, 1), (2, 2), (2, 3)]

/-- What copies owe: the receivers' credits. -/
def copyDue (c : Dev nD) (l : List Ex) : List (Pay nD τ sig) := l.map fun x => (recvCell (sh c x.1) x, 2, N)
/-- What signals owe. -/
def barDue (c : Dev nD) (l : List (Fin 3)) : List (Pay nD τ sig) := l.map fun δ => (barCell (sh c δ), 1, 1)
/-- All that a device owes at launch. -/
def due (c : Dev nD) : List (Pay nD τ sig) := barDue c [0, 1, 2] ++ copyDue c sendOrder

theorem copyDue_spec (c : Dev nD) (l : List Ex) (y : Pay nD τ sig) (h : y ∈ copyDue c l) : y.1.1.2 = .tc ∧ y.2.1 = 2 := by
  obtain ⟨x, -, rfl⟩ := List.mem_map.mp h
  exact ⟨rfl, rfl⟩
theorem due_spec (c : Dev nD) (y : Pay nD τ sig) (h : y ∈ due c) : y.1.1.2 = .tc ∧ 1 ≤ y.2.1 ∧ y.2.1 < 3 := by
  unfold due at h
  rw [List.mem_append] at h
  rcases h with h | h
  · obtain ⟨x, -, rfl⟩ := List.mem_map.mp h
    exact ⟨rfl, Nat.le_of_ble_eq_true rfl, Nat.le_of_ble_eq_true rfl⟩
  · obtain ⟨x, -, rfl⟩ := List.mem_map.mp h
    exact ⟨rfl, Nat.le_of_ble_eq_true rfl, Nat.le_of_ble_eq_true rfl⟩

/-- The number of wait indices. -/
abbrev K : ℕ := 4

theorem mayWait_bar (c : Dev nD) :
    (levAts (SiteBlocks.L K) SiteBlocks.lv : sProp 𝕄) ⊢ MayWait (c : Thread nD τ) (.reg barS) 1 (tallyL (copyDue c sendOrder)) :=
  mayWait_of (by decide) c _ _ fun g k h => by
    obtain ⟨y, hy, rfl, rfl⟩ := tallyL_pos h
    obtain ⟨h1, h2⟩ := copyDue_spec c _ y hy
    exact ⟨mem_L' h1 (by rw [h2]; decide), by rw [h2]; decide⟩

end Cert.KernelIdeal.Own

end
-- ==== Proof.Steps.lean ====
/-
  One step of the exchange at a time: a signal, a copy, a receive wait, a send wait, and the wait on the barrier.
-/
module

public import proofs.«01_k».proof.Proof.Sched

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Transfers (shareTok shareDrop)
open Cert.KernelIdeal.Gen

variable {F : FTy → Type} [FloatOps F] [Named F]

local notation "𝕄" => MT nD τ sig ℕ (Elt F) ℕ UU ℕ

abbrev 𝒱₀ : Variants := Variants.none

/-- The body's weakest precondition on device `c`. -/
abbrev wpB {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What a device holds between two steps -/

section State

variable (W : Dev nD → Valuation τ sig (Elt F))

/-- To copy a piece: the two payments' tokens, and the place where it lands. -/
def kit (c : Dev nD) (x : Ex) : sProp 𝕄 :=
  iprop(dutyTok ER (sendCell c x) 0 0 ∗ reached ER (sendCell c x) 0 ∗ dutyTok ER (recvCell (sh c x.1) x) 0 0
    ∗ pad (sh c x.1) x ∗ reached ER (recvCell (sh c x.1) x) 0)

/-- To wait for a piece from another device. -/
def rkit (c : Dev nD) (x : Ex) : sProp 𝕄 := iprop(atPos ER (recvCell c x) 0 ∅ 0 ∗ cred (tallyAt (recvCell c x) 2 N))
/-- To wait for the end of a copy's reading. -/
def skit (c : Dev nD) (x : Ex) : sProp 𝕄 := iprop(atPos ER (sendCell c x) 0 ∅ 0 ∗ cred (tallyAt (sendCell c x) 3 N))

/-- Before the copies `l`, after the copies `acc`. -/
def copying (c : Dev nD) (l acc : List Ex) : sProp 𝕄 :=
  iprop(bigSepL l (kit (F := F) c) ∗ bigSepL acc (fun x => (cred (tallyAt (sendCell c x) 3 N) : sProp 𝕄)) ∗ ∃ Wt, owes c (tallyL (copyDue c l)) Wt)
/-- Before the receive waits `l`, after the receive waits `acc`. -/
def receiving (c : Dev nD) (l acc : List Ex) : sProp 𝕄 :=
  iprop(bigSepL l (rkit (F := F) c) ∗ bigSepL acc (fun x => (semVal (recvCell c x) 0 : sProp 𝕄)) ∗ ∃ Wt, owes c 0 Wt)
/-- Before the send waits `l`, after the send waits `acc`. -/
def draining (c : Dev nD) (l acc : List Ex) : sProp 𝕄 :=
  iprop(bigSepL l (skit (F := F) c) ∗ bigSepL acc (fun x => (semVal (sendCell c x) 0 : sProp 𝕄)) ∗ ∃ Wt, owes c 0 Wt)

/-- Before the signals `l`: the tokens, and the slots of its own that the signals hand over. -/
def signalling (c : Dev nD) (l : List (Fin 3)) : sProp 𝕄 :=
  iprop(bigSepL l (fun δ => iprop(dutyTok ER (barCell (sh c δ)) 0 δ.rev ∗ reached ER (barCell (sh c δ)) 0 ∗ barPay (F := F) (sh c δ) δ.rev))
    ∗ ∃ Wt, owes c (tallyL (barDue c l ++ copyDue c sendOrder)) Wt)

end State

section Rules

variable (W : Dev nD → Valuation τ sig (Elt F)) (κ : GSem nD τ sig → ℕ) (c : Dev nD)

theorem sepL_cons {A : Type} (x : A) (l : List A) (Φ : A → sProp 𝕄) : (bigSepL (x :: l) Φ : sProp 𝕄) = iprop(Φ x ∗ bigSepL l Φ) := bigSepL_cons x l Φ

theorem bigSepL_perm {A : Type} {l l' : List A} (h : l.Perm l') (Φ : A → sProp 𝕄) : (bigSepL l Φ : sProp 𝕄) = bigSepL l' Φ := by
  induction h with
  | nil => rfl
  | cons x _ ih => rw [sepL_cons, sepL_cons, ih]
  | swap x y l =>
    have e (a b r : sProp 𝕄) : iprop(a ∗ b ∗ r) ⊢ iprop(b ∗ a ∗ r) := by
      iintro ⟨H1, H2, H3⟩
      isplitl [H2]; · iexact H2
      isplitl [H1] <;> iassumption
    simp only [sepL_cons]
    exact BI.Entails.antisymm (e _ _ _) (e _ _ _)
  | trans _ _ h1 h2 => exact h1.trans h2

theorem inv_bar (e : Dev nD) : fam.cellInvs ER (exRd W) κ ⊢ (cellInv ER (exRd W) (κ (barCell e)) (barCell e) : sProp 𝕄) := fam.cellInvs_bar ER (exRd W) κ e
theorem inv_send (e : Dev nD) (x : Ex) : fam.cellInvs ER (exRd W) κ ⊢ (cellInv ER (exRd W) (κ (sendCell e x)) (sendCell e x) : sProp 𝕄) :=
  fam.cellInvs_dorm ER (exRd W) κ e (j := 0) (send_mem x)
theorem inv_recv (e : Dev nD) (x : Ex) : fam.cellInvs ER (exRd W) κ ⊢ (cellInv ER (exRd W) (κ (recvCell e x)) (recvCell e x) : sProp 𝕄) :=
  fam.cellInvs_dorm ER (exRd W) κ e (j := 0) (recv_mem x)

theorem barDue_cons (δ : Fin 3) (l : List (Fin 3)) (t : List (Pay nD τ sig)) :
    (tallyL (barDue c (δ :: l) ++ t) : CellTallies nD τ sig ℕ) = tallyL (barDue c l ++ t) + tallyAt (barCell (sh c δ)) 1 1 :=
  show tallyAt (barCell (sh c δ)) 1 1 + tallyL (barDue c l ++ t) = _ from add_comm _ _
theorem copyDue_cons (x : Ex) (l : List Ex) :
    (tallyL (copyDue c (x :: l)) : CellTallies nD τ sig ℕ) = tallyL (copyDue c l) + tallyAt (recvCell (sh c x.1) x) 2 N :=
  show tallyAt (recvCell (sh c x.1) x) 2 N + tallyL (copyDue c l) = _ from add_comm _ _
theorem amount_bar (e : Dev nD) (d : Fin 3) : (exRd W).amount (barCell e) 0 d = 1 := rfl
theorem amount_send (x : Ex) (d : Fin 3) : (exRd W).amount (sendCell c x) 0 d = N := rfl
theorem amount_recv (e : Dev nD) (x : Ex) (d : Fin 3) : (exRd W).amount (recvCell e x) 0 d = N := rfl
theorem payload_bar (e : Dev nD) (d : Fin 3) : (exRd W).payload (barCell e) 0 d = barPay (F := F) e d := rfl

theorem step_signal {α : Type} {δ : Fin 3} {l : List (Fin 3)} {e : Dev nD} (he : e = sh c δ) {sm : Sem sig} (hsm : sm = barS)
    {k : PUnit → Prog (TpuEff nD τ sig (Elt F) Λ₀ .tc) α} {Q : α → sProp 𝕄} :
    iprop(fam.cellInvs ER (exRd W) κ ∗ signalling c (δ :: l))
      ⊢ iprop((signalling c l -∗ wpB c (k ⟨⟩) Q) -∗ wpB c (.op (.semSignal (e : Thread nD τ) sm 1) k) Q) := by
  subst he hsm
  unfold signalling
  rw [sepL_cons]
  iintro ⟨#HI, ⟨⟨Ht, Hr, Hp⟩, Hl⟩, ⟨%Wt, HO⟩⟩ Hk
  iapply (Rounds.wp_signal 𝒱₀ ER (exRd W) (c : Thread nD τ) none (dst := (sh c δ : Thread nD τ)) (sem := barS) (r := 0) (d := δ.rev) (κ := κ (barCell (sh c δ)))
      (by rw [duties_bar]; exact Finset.mem_univ _) (amount_bar W (sh c δ) δ.rev) 1
      (tallyL (barDue c l ++ copyDue c sendOrder)) (barDue_cons c δ l _) (W := Wt)) $$ [HO Ht Hr Hp]
  · isplitr; · iapply (inv_bar W κ (sh c δ)); iexact HI
    isplitl [HO]; · iexact HO
    isplitl [Ht]; · iexact Ht
    isplitl [Hp]; · rw [payload_bar]; iexact Hp
    iexact Hr
  iintro HO
  iapply Hk
  isplitl [Hl]; · iexact Hl
  iexists Wt; iexact HO

theorem step_barrier {α : Type} {sm : Sem sig} (hsm : sm = barS)
    {k : PUnit → Prog (TpuEff nD τ sig (Elt F) Λ₀ .tc) α} {Q : α → sProp 𝕄} :
    iprop(fam.cellInvs ER (exRd W) κ ∗ levAts (SiteBlocks.L K) SiteBlocks.lv ∗ signalling c [] ∗ atPos ER (barCell c) 0 ∅ 0 ∗ cred (tallyAt (barCell c) 1 3))
      ⊢ iprop((((∃ Wt, owes c (tallyL (copyDue c sendOrder)) Wt) ∗ atPos ER (barCell c) 1 ∅ 0 ∗ bigSep Finset.univ fun d => barPay (F := F) c d)
          -∗ wpB c (k ⟨⟩) Q) -∗ wpB c (.op (.semWait sm 3) k) Q) := by
  subst hsm
  unfold signalling
  iintro ⟨#HI, #Hlev, ⟨-, ⟨%Wt, HO⟩⟩, Hat, Hc⟩ Hk
  iapply (Rounds.wp_wait_rest_token 𝒱₀ ER (exRd W) (c : Thread nD τ) none (κ := κ (barCell c))
      (wpE_semWait_eq 𝒱₀ (c : Thread nD τ) none Set.univ) (Set.mem_univ _) 1 (O := tallyL (copyDue c sendOrder)) (W := Wt) (R := 0) (m := 0) (T := ∅)
      ((Nat.zero_add 3).trans (expect_bar W c).symm)) $$ [Hc HO Hat]
  · isplitr; · iapply (inv_bar W κ c); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar W c)) $$ Hpay
  iapply Hk
  isplitl [HO]; · iexists _; iexact HO
  isplitl [Hat]; · iexact Hat
  iexact Hp

theorem cPts_piece (e : Dev nD) (st k : Fin 4) (q : PosShare TreeShare) (f : CIdx → Elt F .bf16) :
    ((pieceM st k).view.loc (e : Thread nD τ) ↦[(pieceM st k).view.set]{q} f : sProp 𝕄) = cPts e (pieceR st k).set q f :=
  congrArg (fun S : Finset CIdx => (cPts e S q f : sProp 𝕄)) (pieceM_set st k)

theorem step_copy {α : Type} (x : Ex) {l acc : List Ex} {e : Dev nD} (he : e = sh c x.1)
    {src dst : Memref sig .tc .vmem S256x128 .bf16} {hsc : dst.view.ref.isScScratch = false} {sS sR : DmaSem sig} {hsrc : src.view.WordExact} {hdst : dst.view.WordExact}
    {hsem : DmaTarget.Typed .vmem (.dma sR) (.remote (Dev.tc e) dst (.dma sS) hsc)}
    (h1 : src = pieceM 0 x.2) (h2 : dst = pieceM x.1.succ x.2) (h3 : sS = sendS x) (h4 : sR = recvS x)
    {k : PUnit → Prog (TpuEff nD τ sig (Elt F) Λ₀ .tc) α} {Q : α → sProp 𝕄} :
    iprop(fam.cellInvs ER (exRd W) κ ∗ copying c (x :: l) acc ∗ cPts c (pieceR 0 x.2).set (shareTok fullShare 3 x.1) (ctx W c))
      ⊢ iprop((copying c l (x :: acc) -∗ wpB c (k ⟨⟩) Q) -∗ wpB c (.op (.enqueueDma src (.remote (Dev.tc e) dst (.dma sS) hsc) (.dma sR) hsrc hdst hsem) k) Q) := by
  subst he h1 h2 h3 h4
  unfold copying kit
  rw [sepL_cons, sepL_cons]
  iintro ⟨#HI, ⟨⟨⟨Ht, Hr, Ht', ⟨%fn, Hd⟩, Hr'⟩, Hl⟩, Hacc, ⟨%Wt, HO⟩⟩, Hs⟩ Hk
  iapply (Rounds.wp_send_pointsTo 𝒱₀ ER (exRd W) (c : Thread nD τ) none (c' := (sh c x.1 : Thread nD τ)) (src := pieceM 0 x.2) (dst := pieceM x.1.succ x.2)
      (sS := .dma (sendS x)) (sem := .dma (recvS x)) (q := shareTok fullShare 3 x.1) (fs := ctx W c) (κ₁ := κ (sendCell c x)) (κ₂ := κ (recvCell (sh c x.1) x))
      (r₁ := 0) (r₂ := 0) (d₁ := 0) (d₂ := 0) (fd := fn)
      (by rw [duties_send]; exact Finset.mem_singleton_self _) (by rw [duties_recv]; exact Finset.mem_singleton_self _)
      2 3 N rfl (amount_send W c x 0) (amount_recv W (sh c x.1) x 0) (tallyL (copyDue c l)) (copyDue_cons c x l) (W := Wt)
      (by rw [payload_send, cPts_piece]; exact BI.Entails.refl _)
      (by rw [payload_recv, pointsTo_congr (landed W c x.1 x.2 fn), cPts_piece]; exact BI.Entails.refl _)) $$ [Hs Hd HO Ht Hr Ht' Hr']
  · isplitr; · iapply (inv_send W κ c x); iexact HI
    isplitr; · iapply (inv_recv W κ (sh c x.1) x); iexact HI
    isplitl [Hs]; · iapply (Entails.of_eq (cPts_piece (F := F) c 0 x.2 (shareTok fullShare 3 x.1) (ctx W c)).symm); iexact Hs
    isplitl [Hd]; · iapply (Entails.of_eq (cPts_piece (F := F) (sh c x.1) x.1.succ x.2 fullShare fn).symm); iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hl]; · iexact Hl
  isplitl [Hc Hacc]; · isplitl [Hc] <;> iassumption
  iexists Wt; iexact HO

theorem step_recv {α : Type} (x : Ex) {l acc : List Ex}
    {src dst : Memref sig .tc .vmem S256x128 .bf16} {sm : DmaSem sig} {hsrc : src.view.WordExact} {hdst : dst.view.WordExact}
    (hd : dst = pieceM x.1.succ x.2) (h2 : sm = recvS x)
    {k : PUnit → Prog (TpuEff nD τ sig (Elt F) Λ₀ .tc) α} {Q : α → sProp 𝕄} :
    iprop(fam.cellInvs ER (exRd W) κ ∗ receiving c (x :: l) acc)
      ⊢ iprop((receiving c l (x :: acc) ∗ cPts c (pieceR x.1.succ x.2).set fullShare (ctx W c) -∗ wpB c (k ⟨⟩) Q)
          -∗ wpB c (.op (.waitDma2 sm src dst hsrc hdst) k) Q) := by
  subst h2
  have h1 : dst.view.dmaCredit = N := by subst hd; rfl
  unfold receiving rkit
  rw [sepL_cons, sepL_cons]
  iintro ⟨#HI, ⟨⟨⟨Hat, Hc⟩, Hl⟩, Hacc, ⟨%Wt, HO⟩⟩⟩ Hk
  iapply (Rounds.wp_wait_rest_token 𝒱₀ ER (exRd W) (c : Thread nD τ) none (κ := κ (recvCell c x)) (k' := N)
      (fun K => by rw [← h1]; exact wpE_waitDma2_eq 𝒱₀ (c : Thread nD τ) none Set.univ K) (Set.mem_univ _) 2 (O := 0) (W := Wt) (R := 0) (m := 0) (T := ∅)
      ((Nat.zero_add _).trans (expect_recv W c x).symm)) $$ [Hc HO Hat]
  · isplitr; · iapply (inv_recv W κ c x); iexact HI
    isplitl [Hc]; · iexact Hc
    isplitl [HO]; · iexact HO
    isplitr; · rw [MayWait_zero]; iempintro
    iexact Hat
  iintro ⟨HO, Hat, -, Hpay⟩
  ihave Hp := (Entails.of_eq ((rest_recv W c x).trans (by unfold recvPay; rfl))) $$ Hpay
  imod (Rounds.cell_close ER (exRd W) (Set.mem_univ (κ (recvCell c x))) id (duties_later W (recvCell c x))) $$ [Hat] with Hv
  · isplitr; · iapply (inv_recv W κ c x); iexact HI
    iexact Hat
  iapply Hk
  isplitr [Hp]
  · isplitl [Hl]; · iexact Hl
    isplitl [Hv Hacc]; · isplitl [Hv] <;> iassumption
    iexists _; iexact HO
  iexact Hp

theorem step_drain {α : Type} (x : Ex) {l acc : List Ex}
    {src dst : Memref sig .tc .vmem S256x128 .bf16} {sm : DmaSem sig} {hsrc : src.view.WordExact} {hdst : dst.view.WordExact}
    (hd : dst = pieceM 0 x.2) (h2 : sm = sendS x)
    {k : PUnit → Prog (TpuEff nD τ sig (Elt F) Λ₀ .tc) α} {Q : α → sProp 𝕄} :
    iprop(fam.cellInvs ER (exRd W) κ ∗ draining c (x :: l) acc)
      ⊢ iprop((draining c l (x :: acc) ∗ cPts c (pieceR 0 x.2).set (shareTok fullShare 3 x.1) (ctx W c) -∗ wpB c (k ⟨⟩) Q)
          -∗ wpB c (.op (.waitDma2 sm src dst hsrc hdst) k) Q) := by
  subst h2
  have h1 : dst.view.dmaCredit = N := by subst hd; rfl
  unfold draining skit
  rw [sepL_cons, sepL_cons]
  iintro ⟨#HI, ⟨⟨⟨Hat, Hc⟩, Hl⟩, Hacc, ⟨%Wt, HO⟩⟩⟩ Hk
  iapply (Rounds.wp_wait_rest_token 𝒱₀ ER (exRd W) (c : Thread nD τ) none (κ := κ (sendCell c x)) (k' := N)
      (fun K => by rw [← h1]; exact wpE_waitDma2_eq 𝒱₀ (c : Thread nD τ) none Set.univ K) (Set.mem_univ _) 3 (O := 0) (W := Wt) (R := 0) (m := 0) (T := ∅)
      ((Nat.zero_add _).trans (expect_send W c x).symm)) $$ [Hc HO Hat]
  · isplitr; · iapply (inv_send W κ c x); iexact HI
    isplitl [Hc]; · iexact Hc
    isplitl [HO]; · iexact HO
    isplitr; · rw [MayWait_zero]; iempintro
    iexact Hat
  iintro ⟨HO, Hat, -, Hpay⟩
  ihave Hp := (Entails.of_eq ((rest_send W c x).trans (by unfold sendPay; rfl))) $$ Hpay
  imod (Rounds.cell_close ER (exRd W) (Set.mem_univ (κ (sendCell c x))) id (duties_later W (sendCell c x))) $$ [Hat] with Hv
  · isplitr; · iapply (inv_send W κ c x); iexact HI
    iexact Hat
  iapply Hk
  isplitr [Hp]
  · isplitl [Hl]; · iexact Hl
    isplitl [Hv Hacc]; · isplitl [Hv] <;> iassumption
    iexists _; iexact HO
  iexact Hp

end Rules

end Cert.KernelIdeal.Own

end
-- ==== Proof.Kit.lean ====
/-
  The kernel's loads and stores, each as one step at the contents that `Protocol` names, and the pieces joined and dealt between them.
-/
module

public import proofs.«01_k».proof.Proof.Steps

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Transfers (shareTok shareDrop)
open Cert.KernelIdeal.Gen

variable {F : FTy → Type} [FloatOps F] [Named F]

local notation "𝕄" => MT nD τ sig ℕ (Elt F) ℕ UU ℕ

section Contents

variable (W : Dev nD → Valuation τ sig (Elt F)) (c : Dev nD)

/-- The rows of the output projection for slot `s`, the context of batch `b` in slot `s`, as loaded. -/
abbrev wov (s : Fin 4) : Vec F S256x512 .bf16 :=
  ((Memref.whole cc0_stg4_0).access (Rect.unit (s := S1024x512) (k0_off1 c (BitVec.ofNat 32 s.val)) S256x512.size (k0_off1_inb c s))).read (Elt F) (oIn W c)
@[inherit_doc wov] abbrev slabv (s : Fin 4) (b : Fin 2) : Vec F S1x1x256x256 .bf16 := (commM.access (slabR s b)).read (Elt F) (ctx W c)

/-- The output after each of the four slots, in the order 0, 1, 3, 2. -/
def acc0 : Fin 2 → FVec F S1x256x512 .f32
  | 0 => k0_pay17 (wov W c 0) (slabv W c 0 0)
  | 1 => k0_pay18 (wov W c 0) (slabv W c 0 1)
@[inherit_doc acc0] def acc1 : Fin 2 → FVec F S1x256x512 .f32
  | 0 => k0_pay20 (k0_pay19 (wov W c 1)) (slabv W c 1 0) (acc0 W c 0)
  | 1 => k0_pay21 (k0_pay19 (wov W c 1)) (slabv W c 1 1) (acc0 W c 1)
@[inherit_doc acc0] def acc2 : Fin 2 → FVec F S1x256x512 .f32
  | 0 => k0_pay23 (wov W c 3) (slabv W c 3 0) (acc1 W c 0)
  | 1 => k0_pay24 (k0_pay22 (wov W c 3)) (slabv W c 3 1) (acc1 W c 1)
@[inherit_doc acc0] def acc3 : Fin 2 → FVec F S1x256x512 .f32
  | 0 => k0_pay26 (wov W c 2) (slabv W c 2 0) (acc2 W c 0)
  | 1 => k0_pay27 (wov W c 2) (slabv W c 2 1) (acc2 W c 1)

end Contents

/-! ## The output window -/

abbrev OIdx : Type := S2x256x512.Idx
abbrev outM : Memref sig .tc .vmem S2x256x512 .f32 := Memref.whole cc0_stg5_0

theorem inb_out (b : Fin 2) : ∀ a, (![b.val, 0, 0] : Fin 3 → ℕ) a + S1x256x512.size a ≤ S2x256x512.size a := by revert b; decide
abbrev outR (b : Fin 2) : Rect S2x256x512 := Rect.unit (s := S2x256x512) ![b.val, 0, 0] S1x256x512.size (inb_out b)

/-- An index of the output within its batch. -/
def inBatch (i : OIdx) : S1x256x512.Idx :=
  fun a => match a with
    | ⟨0, _⟩ => (⟨0, Nat.one_pos⟩ : Fin 1)
    | ⟨1, _⟩ => (⟨(i 1).val, (i 1).isLt⟩ : Fin 256)
    | ⟨2, _⟩ => (⟨(i 2).val, (i 2).isLt⟩ : Fin 512)
    | ⟨_ + 3, h⟩ => absurd h (Nat.not_lt.2 (Nat.le_add_left _ _))

/-- The output buffer at a batch each. -/
def obuf (a : Fin 2 → FVec F S1x256x512 .f32) : OIdx → Elt F .f32 := fun i => a (i 0) (inBatch i)

theorem out_emb (b : Fin 2) (x : (outR b).shape.Idx) : ((outM.access (outR b)).emb x) 0 = b ∧ inBatch ((outM.access (outR b)).emb x) = x := by
  have e (a) := ValueKit.view_emb_slice_whole_unit_val cc0_stg5_0 ![b.val, 0, 0] S1x256x512.size (inb_out b) x a
  have hx0 : (x 0).val < 1 := (x 0).isLt
  refine ⟨Fin.ext ((e 0).trans (by show b.val + (x 0).val = b.val; omega)), ?_⟩
  funext a
  match a with
  | ⟨0, _⟩ => exact Subsingleton.elim (α := Fin 1) _ _
  | ⟨1, _⟩ => exact Fin.ext ((e 1).trans (Nat.zero_add _))
  | ⟨2, _⟩ => exact Fin.ext ((e 2).trans (Nat.zero_add _))

theorem read_obuf (b : Fin 2) (a : Fin 2 → FVec F S1x256x512 .f32) : (outM.access (outR b)).read (Elt F) (obuf a) = a b := by
  funext x
  obtain ⟨h0, h1⟩ := out_emb b x
  show a ((outM.access (outR b)).emb x 0) (inBatch ((outM.access (outR b)).emb x)) = _
  rw [h0, h1]

theorem mem_out (b : Fin 2) (i : OIdx) : i ∈ (outM.access (outR b)).set ↔ i 0 = b := by
  have h0 : (i 0).val < 2 := (i 0).isLt; have h1 : (i 1).val < 256 := (i 1).isLt; have h2 : (i 2).val < 512 := (i 2).isLt
  rw [show (outM.access (outR b)).set = (outR b).set from View.set_slice_whole cc0_stg5_0 (outR b), Rect.mem_set_unit, ValueKit.forall_fin_iff_conj]
  show ((b.val ≤ (i 0).val ∧ (i 0).val < b.val + 1) ∧ (0 ≤ (i 1).val ∧ (i 1).val < 0 + 256) ∧ (0 ≤ (i 2).val ∧ (i 2).val < 0 + 512)) ↔ _
  refine ⟨fun h => Fin.ext (by omega), fun h => ?_⟩
  have : (i 0).val = b.val := congrArg Fin.val h
  omega

theorem write_obuf (b : Fin 2) (a : Fin 2 → FVec F S1x256x512 .f32) (v : FVec F S1x256x512 .f32) :
    (outM.access (outR b)).write (Elt F) (obuf a) v Finset.univ = obuf (Function.update a b v) := by
  funext (i : OIdx)
  by_cases hi : i ∈ (outM.access (outR b)).set
  · obtain ⟨x, -, rfl⟩ := Finset.mem_map.mp hi
    obtain ⟨h0, h1⟩ := out_emb b x
    refine (View.write_emb_of_mem (v := outM.access (outR b)) (obuf a) v (Finset.mem_univ x)).trans ?_
    show v x = Function.update a b v ((outM.access (outR b)).emb x 0) (inBatch ((outM.access (outR b)).emb x))
    rw [h0, h1, Function.update_self]
  · show (outM.access (outR b)).write (Elt F) (obuf a) v Finset.univ i = obuf (Function.update a b v) i
    refine (View.write_of_not_mem (v := outM.access (outR b)) (obuf a) v Finset.univ (by rw [View.setOn_univ]; exact hi)).trans ?_
    exact (congrFun (Function.update_of_ne (fun h => hi ((mem_out b i).mpr h)) v a) (inBatch i)).symm

theorem obuf_of (f : OIdx → Elt F .f32) : ∃ a : Fin 2 → FVec F S1x256x512 .f32, f = obuf a := by
  refine ⟨fun b => (outM.access (outR b)).read (Elt F) f, ?_⟩
  funext i
  have hi : i ∈ (outM.access (outR (i 0))).set := (mem_out (i 0) i).mpr rfl
  obtain ⟨x, -, hx⟩ := Finset.mem_map.mp hi
  have e := (out_emb (i 0) x).2
  show f i = (outM.access (outR (i 0))).read (Elt F) f (inBatch i)
  have e' : inBatch i = x := by rw [← hx] at e ⊢; exact (congrArg inBatch hx.symm ▸ e)
  rw [e']
  exact (congrArg f hx).symm

/-! ## Steps -/

section Steps

variable (W : Dev nD → Valuation τ sig (Elt F)) (κ : GSem nD τ sig → ℕ) (c : Dev nD)

/-- The input windows' buffers, at the operands. -/
abbrev winX : sProp 𝕄 := ((c : Thread nD τ).loc cc0_stg0_0 : Loc nD τ sig) ↦{fullShare} xIn W c
@[inherit_doc winX] abbrev winQ : sProp 𝕄 := ((c : Thread nD τ).loc cc0_stg1_0 : Loc nD τ sig) ↦{fullShare} qIn W c
@[inherit_doc winX] abbrev winK : sProp 𝕄 := ((c : Thread nD τ).loc cc0_stg2_0 : Loc nD τ sig) ↦{fullShare} kIn W c
@[inherit_doc winX] abbrev winV : sProp 𝕄 := ((c : Thread nD τ).loc cc0_stg3_0 : Loc nD τ sig) ↦{fullShare} vIn W c
@[inherit_doc winX] abbrev winO : sProp 𝕄 := ((c : Thread nD τ).loc cc0_stg4_0 : Loc nD τ sig) ↦{fullShare} oIn W c
/-- The output window's buffer, a batch each. -/
abbrev winOut (a : Fin 2 → FVec F S1x256x512 .f32) : sProp 𝕄 := ((c : Thread nD τ).loc cc0_stg5_0 : Loc nD τ sig) ↦{fullShare} obuf a

variable {α : Type}

theorem step_x {inb} {hl} {k : (S2x256x512.Idx → Elt F .bf16) → Prog (TpuEff nD τ sig (Elt F) Λ₀ .tc) α} {Q : α → sProp 𝕄} :
    winX W c ⊢ iprop((winX W c -∗ wpB c (k (xIn W c)) Q)
      -∗ wpB c (.op (.load (Memref.whole cc0_stg0_0) (Rect.unit (s := S2x256x512) ![0, 0, 0] S2x256x512.size inb).toLoadRect hl) k) Q) := by
  have e : (Memref.whole cc0_stg0_0).view.readAt (Elt F) (Rect.unit (s := S2x256x512) ![0, 0, 0] S2x256x512.size inb).toLoadRect (xIn W c) = xIn W c :=
    Memref.readAt_unit_zero (Elt F) cc0_stg0_0 (off := ![0, 0, 0]) (by decide) inb (xIn W c)
  have h : winX W c ⊢ iprop((winX W c -∗ wpB c (k ((Memref.whole cc0_stg0_0).view.readAt (Elt F) (Rect.unit (s := S2x256x512) ![0, 0, 0] S2x256x512.size inb).toLoadRect (xIn W c))) Q)
      -∗ wpB c (.op (.load (Memref.whole cc0_stg0_0) (Rect.unit (s := S2x256x512) ![0, 0, 0] S2x256x512.size inb).toLoadRect hl) k) Q) :=
    wp_load (defs := defs₀ (F := F)) 𝒱₀ (c : Thread nD τ) none Set.univ (m := Memref.whole cc0_stg0_0) (q := fullShare) (f := xIn W c) (S := Finset.univ) (Finset.subset_univ _)
  rw [e] at h
  exact h

theorem step_q {inb} {hl} {k : (S512x256.Idx → Elt F .bf16) → Prog (TpuEff nD τ sig (Elt F) Λ₀ .tc) α} {Q : α → sProp 𝕄} :
    winQ W c ⊢ iprop((winQ W c -∗ wpB c (k (qIn W c)) Q)
      -∗ wpB c (.op (.load (Memref.whole cc0_stg1_0) (Rect.unit (s := S512x256) ![0, 0] S512x256.size inb).toLoadRect hl) k) Q) := by
  have e : (Memref.whole cc0_stg1_0).view.readAt (Elt F) (Rect.unit (s := S512x256) ![0, 0] S512x256.size inb).toLoadRect (qIn W c) = qIn W c :=
    Memref.readAt_unit_zero (Elt F) cc0_stg1_0 (off := ![0, 0]) (by decide) inb (qIn W c)
  have h : winQ W c ⊢ iprop((winQ W c -∗ wpB c (k ((Memref.whole cc0_stg1_0).view.readAt (Elt F) (Rect.unit (s := S512x256) ![0, 0] S512x256.size inb).toLoadRect (qIn W c))) Q)
      -∗ wpB c (.op (.load (Memref.whole cc0_stg1_0) (Rect.unit (s := S512x256) ![0, 0] S512x256.size inb).toLoadRect hl) k) Q) :=
    wp_load (defs := defs₀ (F := F)) 𝒱₀ (c : Thread nD τ) none Set.univ (m := Memref.whole cc0_stg1_0) (q := fullShare) (f := qIn W c) (S := Finset.univ) (Finset.subset_univ _)
  rw [e] at h
  exact h

theorem step_k (h : Fin 8) {hl} {k : ((Rect.unit (s := S8x64x256) ![h.val, 0, 0] S1x64x256.size (inb_k h)).shape.Idx → Elt F .bf16) → Prog (TpuEff nD τ sig (Elt F) Λ₀ .tc) α} {Q : α → sProp 𝕄} :
    winK W c ⊢ iprop((winK W c -∗ wpB c (k (kHead W c h)) Q)
      -∗ wpB c (.op (.load (Memref.whole cc0_stg2_0) (Rect.unit (s := S8x64x256) ![h.val, 0, 0] S1x64x256.size (inb_k h)).toLoadRect hl) k) Q) :=
  wp_load (defs := defs₀ (F := F)) 𝒱₀ (c : Thread nD τ) none Set.univ (m := Memref.whole cc0_stg2_0) (q := fullShare) (f := kIn W c) (S := Finset.univ) (Finset.subset_univ _)

theorem step_v (h : Fin 8) {hl} {k : ((Rect.unit (s := S8x256x65) ![h.val, 0, 0] S1x256x65.size (inb_v h)).shape.Idx → Elt F .bf16) → Prog (TpuEff nD τ sig (Elt F) Λ₀ .tc) α} {Q : α → sProp 𝕄} :
    winV W c ⊢ iprop((winV W c -∗ wpB c (k (vHead W c h)) Q)
      -∗ wpB c (.op (.load (Memref.whole cc0_stg3_0) (Rect.unit (s := S8x256x65) ![h.val, 0, 0] S1x256x65.size (inb_v h)).toLoadRect hl) k) Q) :=
  wp_load (defs := defs₀ (F := F)) 𝒱₀ (c : Thread nD τ) none Set.univ (m := Memref.whole cc0_stg3_0) (q := fullShare) (f := vIn W c) (S := Finset.univ) (Finset.subset_univ _)

theorem step_wo (s : Fin 4) {hl} {k : (S256x512.Idx → Elt F .bf16) → Prog (TpuEff nD τ sig (Elt F) Λ₀ .tc) α} {Q : α → sProp 𝕄} :
    winO W c ⊢ iprop((winO W c -∗ wpB c (k (wov W c s)) Q)
      -∗ wpB c (.op (.load (Memref.whole cc0_stg4_0) (Rect.unit (s := S1024x512) (k0_off1 c (BitVec.ofNat 32 s.val)) S256x512.size (k0_off1_inb c s)).toLoadRect hl) k) Q) :=
  wp_load (defs := defs₀ (F := F)) 𝒱₀ (c : Thread nD τ) none Set.univ (m := Memref.whole cc0_stg4_0) (q := fullShare) (f := oIn W c) (S := Finset.univ) (Finset.subset_univ _)

theorem cPts_union {A B : Finset CIdx} (q : PosShare TreeShare) (f : CIdx → Elt F .bf16) (h : Disjoint A B) :
    cPts c (A ∪ B) q f ⊣⊢ iprop(cPts c A q f ∗ cPts c B q f) := pointsTo_union h

/-- A piece of slot `st` at share `q`, at the context it is to hold. -/
abbrev pc (q : PosShare TreeShare) (st k : Fin 4) : sProp 𝕄 := cPts c (pieceR st k).set q (ctx W c)

theorem step_slab (q : PosShare TreeShare) (s : Fin 4) (b : Fin 2) {hl} {k : (S1x1x256x256.Idx → Elt F .bf16) → Prog (TpuEff nD τ sig (Elt F) Λ₀ .tc) α} {Q : α → sProp 𝕄} :
    iprop(pc W c q s (pk b 0) ∗ pc W c q s (pk b 1)) ⊢ iprop((pc W c q s (pk b 0) ∗ pc W c q s (pk b 1) -∗ wpB c (k (slabv W c s b)) Q)
      -∗ wpB c (.op (.load commM (slabR s b).toLoadRect hl) k) Q) := by
  have h := cPts_union c q (ctx W c) (slab_disj s b)
  iintro H Hk
  ihave H := (h.2) $$ H
  iapply (wp_load_rect (defs := defs₀ (F := F)) 𝒱₀ (c : Thread nD τ) none Set.univ (m := commM) (r := slabR s b) (q := q) (f := ctx W c)
    (S := (pieceR s (pk b 0)).set ∪ (pieceR s (pk b 1)).set)
    (by rw [show (commM.access (slabR s b)).set = (slabR s b).set from View.set_slice_whole cc0_scratch0 (slabR s b), slab_eq])) $$ H
  iintro H
  ihave H := (h.1) $$ H
  iapply Hk
  iexact H

theorem step_rows (q : PosShare TreeShare) (s : Fin 4) (b : Fin 2) {k₀ k₁ : Fin 4} (e₀ : pk b 0 = k₀) (e₁ : pk b 1 = k₁) {hl}
    {k : (S1x1x256x256.Idx → Elt F .bf16) → Prog (TpuEff nD τ sig (Elt F) Λ₀ .tc) α} {Q : α → sProp 𝕄} :
    iprop(pc W c q s k₀ ∗ pc W c q s k₁) ⊢ iprop((pc W c q s k₀ ∗ pc W c q s k₁ -∗ wpB c (k (slabv W c s b)) Q)
      -∗ wpB c (.op (.load commM (slabR s b).toLoadRect hl) k) Q) := by
  subst e₀ e₁
  exact step_slab W c q s b

/-- Head `h`'s columns of slot 0 at contents not chosen, and at the context. -/
abbrev hpad (h : Fin 8) : sProp 𝕄 := iprop(∃ f : CIdx → Elt F .bf16, cPts c (headR h).set fullShare f)
@[inherit_doc hpad] abbrev hd (h : Fin 8) : sProp 𝕄 := cPts c (headR h).set fullShare (ctx W c)

theorem step_head (h : Fin 8) {v : FVec F S1x1x256x64 .bf16} (hv : v = headv W c h) {hl hs hm} {k : PUnit → Prog (TpuEff nD τ sig (Elt F) Λ₀ .tc) α} {Q : α → sProp 𝕄} :
    hpad (F := F) c h ⊢ iprop((hd W c h -∗ wpB c (k ⟨⟩) Q)
      -∗ wpB c (.op (.load commM (headR h).toLoadRect hl) fun _ => .op (.store commM (headR h) v Finset.univ hs hm) k) Q) := by
  subst hv
  have hset : (commM.access (headR h)).set = (headR h).set := View.set_slice_whole cc0_scratch0 (headR h)
  iintro ⟨%f, H⟩ Hk
  iapply (wp_load_rect (defs := defs₀ (F := F)) 𝒱₀ (c : Thread nD τ) none Set.univ (m := commM) (r := headR h) (q := fullShare) (f := f) (S := (headR h).set)
    (by rw [hset])) $$ H
  iintro H
  iapply (wp_store (defs := defs₀ (F := F)) 𝒱₀ (c : Thread nD τ) none Set.univ (m := commM) (r := headR h) (f := f) (Mk := Finset.univ) (S := (headR h).set)
    (by rw [View.setOn_univ, hset])) $$ H
  iintro H
  iapply Hk
  ihave H := (Entails.of_eq (pointsTo_congr (store_head W c h f))) $$ H
  iexact H

theorem step_oload (b : Fin 2) {a : Fin 2 → FVec F S1x256x512 .f32} {hl} {k : (S1x256x512.Idx → Elt F .f32) → Prog (TpuEff nD τ sig (Elt F) Λ₀ .tc) α} {Q : α → sProp 𝕄} :
    winOut c a ⊢ iprop((winOut c a -∗ wpB c (k (a b)) Q) -∗ wpB c (.op (.load outM (outR b).toLoadRect hl) k) Q) := by
  have h : winOut c a ⊢ iprop((winOut c a -∗ wpB c (k ((outM.access (outR b)).read (Elt F) (obuf a))) Q) -∗ wpB c (.op (.load outM (outR b).toLoadRect hl) k) Q) :=
    wp_load_rect (defs := defs₀ (F := F)) 𝒱₀ (c : Thread nD τ) none Set.univ (m := outM) (r := outR b) (q := fullShare) (f := obuf a) (S := Finset.univ) (Finset.subset_univ _)
  rw [read_obuf] at h
  exact h

theorem step_ostore (b : Fin 2) {a : Fin 2 → FVec F S1x256x512 .f32} {v : FVec F S1x256x512 .f32} {hs hm} {k : PUnit → Prog (TpuEff nD τ sig (Elt F) Λ₀ .tc) α} {Q : α → sProp 𝕄} :
    winOut c a ⊢ iprop((winOut c (Function.update a b v) -∗ wpB c (k ⟨⟩) Q) -∗ wpB c (.op (.store outM (outR b) v Finset.univ hs hm) k) Q) := by
  have h : winOut c a ⊢ iprop(((((c : Thread nD τ).loc cc0_stg5_0 : Loc nD τ sig) ↦{fullShare} ((outM.access (outR b)).write (Elt F) (obuf a) v Finset.univ)) -∗ wpB c (k ⟨⟩) Q)
      -∗ wpB c (.op (.store outM (outR b) v Finset.univ hs hm) k) Q) :=
    wp_store (defs := defs₀ (F := F)) 𝒱₀ (c : Thread nD τ) none Set.univ (m := outM) (r := outR b) (w := v) (f := obuf a) (Mk := Finset.univ) (S := Finset.univ) (Finset.subset_univ _)
  rw [write_obuf] at h
  exact h

theorem step_oput (b : Fin 2) {a n : Fin 2 → FVec F S1x256x512 .f32} {v : FVec F S1x256x512 .f32} (hv : v = n b) {hs hm} {k : PUnit → Prog (TpuEff nD τ sig (Elt F) Λ₀ .tc) α} {Q : α → sProp 𝕄} :
    winOut c a ⊢ iprop((winOut c (Function.update a b (n b)) -∗ wpB c (k ⟨⟩) Q) -∗ wpB c (.op (.store outM (outR b) v Finset.univ hs hm) k) Q) := by
  subst hv
  exact step_ostore c b

theorem step_take (d : Fin 3) (k : Fin 4) {st : Fin 4} (hst : d.succ = st) {l acc : List Ex} {src dst : Memref sig .tc .vmem S256x128 .bf16} {sm : DmaSem sig}
    {hsrc : src.view.WordExact} {hdst : dst.view.WordExact} (hd : dst = pieceM st k) (h2 : sm = recvS (d, k))
    {p : PUnit → Prog (TpuEff nD τ sig (Elt F) Λ₀ .tc) α} {Q : α → sProp 𝕄} :
    iprop(fam.cellInvs ER (exRd W) κ ∗ receiving c ((d, k) :: l) acc)
      ⊢ iprop((receiving c l ((d, k) :: acc) ∗ pc W c fullShare st k -∗ wpB c (p ⟨⟩) Q) -∗ wpB c (.op (.waitDma2 sm src dst hsrc hdst) p) Q) := by
  subst hst
  exact step_recv W κ c (d, k) hd h2

/-- The share of a source piece that the copy to the `x.1`-th other device reads, and what is left of the piece meanwhile. -/
abbrev tok (x : Ex) : sProp 𝕄 := pc W c (shareTok fullShare 3 x.1) 0 x.2
@[inherit_doc tok] abbrev keep (k : Fin 4) : sProp 𝕄 := pc W c (shareDrop fullShare 3) 0 k

theorem fin3 (Φ : Fin 3 → sProp 𝕄) : (bigSep Finset.univ Φ : sProp 𝕄) = iprop(Φ 0 ∗ Φ 1 ∗ Φ 2 ∗ emp) :=
  (bigSep_eq_bigSepL_of_eq (S := (Finset.univ : Finset (Fin 3))) [0, 1, 2] (by decide) (by decide) Φ).trans (by rw [sepL_cons, sepL_cons, sepL_cons]; rfl)

theorem deal (k : Fin 4) : iprop(hd W c (hk k 0) ∗ hd W c (hk k 1)) ⊢ iprop(keep W c k ∗ tok W c (0, k) ∗ tok W c (1, k) ∗ tok W c (2, k)) := by
  have h := cPts_union c fullShare (ctx W c) (piece_disj k)
  rw [← piece_eq] at h
  iintro H
  ihave H := (h.2) $$ H
  ihave H := (Transfers.pointsTo_toks_split fullShare 3) $$ H
  rw [fin3]
  icases H with ⟨Hk, H0, H1, H2, -⟩
  isplitl [Hk]; · iexact Hk
  isplitl [H0]; · iexact H0
  isplitl [H1] <;> iassumption

theorem undeal (k : Fin 4) : iprop(keep W c k ∗ tok W c (0, k) ∗ tok W c (1, k) ∗ tok W c (2, k)) ⊢ pc W c fullShare 0 k := by
  have h : iprop(keep W c k ∗ bigSep Finset.univ fun i : Fin 3 => pc W c (shareTok fullShare 3 i) 0 k) ⊢ pc W c fullShare 0 k := Transfers.pointsTo_toks_join fullShare 3
  rw [fin3] at h
  iintro ⟨Hk, H0, H1, H2⟩
  iapply h
  isplitl [Hk]; · iexact Hk
  isplitl [H0]; · iexact H0
  isplitl [H1]; · iexact H1
  isplitl [H2]; · iexact H2
  iempintro

/-- To copy a piece, but for what the receiver's signal gives. -/
def kit0 (x : Ex) : sProp 𝕄 :=
  iprop(dutyTok ER (sendCell c x) 0 0 ∗ reached ER (sendCell c x) 0 ∗ dutyTok ER (recvCell (sh c x.1) x) 0 0)

/-- What the receiver's signal gives for a piece. -/
abbrev grant (x : Ex) : sProp 𝕄 := iprop(pad (F := F) (sh c x.1) x ∗ reached ER (recvCell (sh c x.1) x) 0)

theorem grants : (bigSep Finset.univ fun d => barPay (F := F) c d : sProp 𝕄) = bigSep Finset.univ (grant (F := F) c) := by
  unfold barPay
  exact (bigSep_univ_prod (grant (F := F) c)).symm

theorem kit_join (x : Ex) : iprop(grant (F := F) c x ∗ kit0 (F := F) c x) ⊢ kit (F := F) c x := by
  unfold kit0 kit
  iintro ⟨⟨Hp, Hr⟩, Hs, Hrs, Ht⟩
  iframe

theorem sendL (Φ : Ex → sProp 𝕄) : bigSep Finset.univ Φ = bigSepL sendOrder Φ :=
  bigSep_eq_bigSepL_of_eq (S := (Finset.univ : Finset Ex)) sendOrder (by decide) (by decide) Φ

theorem kits_join : iprop((bigSep Finset.univ fun d => barPay (F := F) c d) ∗ bigSepL sendOrder (kit0 (F := F) c)) ⊢ bigSepL sendOrder (kit (F := F) c) := by
  rw [grants, ← sendL, ← sendL]
  exact (Entails.of_eq (bigSep_sep' Finset.univ (grant (F := F) c) (kit0 (F := F) c)).symm).trans (bigSep_mono fun x _ => kit_join c x)

theorem step_ready : iprop((∃ Wt, owes c (tallyL (copyDue c sendOrder)) Wt) ∗ (bigSep Finset.univ fun d => barPay (F := F) c d) ∗ bigSepL sendOrder (kit0 (F := F) c))
    ⊢ copying (F := F) c sendOrder [] := by
  unfold copying
  iintro ⟨HO, Hp, Hk⟩
  ihave H := (kits_join c) $$ [Hp Hk]
  · isplitl [Hp] <;> iassumption
  isplitl [H]; · iexact H
  isplitr [HO]
  · iempintro
  · iexact HO

end Steps

end Cert.KernelIdeal.Own

end
-- ==== Proof.Body.lean ====
/-
  The body's parts, one theorem each, and the body.
-/
module

public import proofs.«01_k».proof.Proof.Kit

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Transfers (shareTok shareDrop)
open Cert.KernelIdeal.Gen

variable {F : FTy → Type} [FloatOps F] [Named F]

local notation "𝕄" => MT nD τ sig ℕ (Elt F) ℕ UU ℕ

abbrev A0 := Memref.whole cc0_stg0_0
abbrev A1 := Memref.whole cc0_stg1_0
abbrev A2 := Memref.whole cc0_stg2_0
abbrev A3 := Memref.whole cc0_stg3_0
abbrev A4 := Memref.whole cc0_stg4_0
abbrev A5 := Memref.whole cc0_stg5_0

theorem step_ret {α : Type} (c : Dev nD) {a : α} {Q : α → sProp 𝕄} : Q a ⊢ wpB (F := F) c (.ret a) Q := by
  show Q a ⊢ wp frame (wpE (defs₀ (F := F)) 𝒱₀ (c : Thread nD τ) none) Set.univ (.ret a) Q
  rw [wp_ret]
  iintro H
  imodintro
  iexact H

theorem out_two (c : Dev nD) (a b : Fin 2 → FVec F S1x256x512 .f32) :
    winOut c (Function.update (Function.update a 0 (b 0)) 1 (b 1)) ⊢ winOut c b := by
  refine Entails.of_eq (congrArg (winOut c) ?_)
  funext i
  match i with
  | 0 => rw [Function.update_of_ne (by decide), Function.update_self]
  | 1 => rw [Function.update_self]

section Parts

variable (W : Dev nD → Valuation τ sig (Elt F)) (κ : GSem nD τ sig → ℕ) (c : Dev nD)
variable (h0 : A0.IsWhole) (h1 : A1.IsWhole) (h2 : A2.IsWhole) (h3 : A3.IsWhole) (h4 : A4.IsWhole) (h5 : A5.IsWhole) (h6 : commM.IsWhole)

abbrev bar3 : Sems sig S_ := SemArray.scalar (sig.barrier 0 rfl)

theorem part1 {Q : _ → sProp 𝕄} :
    iprop(fam.cellInvs ER (exRd W) κ ∗ signalling c [0, 1, 2])
      ⊢ iprop((∀ v2 v30 c4 v31, signalling c [2] -∗ Q ⟨c, v2, bar3, v30, c4, v31⟩)
        -∗ wpB (F := F) c (k0_part1 A0 h0 A1 h1 A2 h2 A3 h3 A4 h4 A5 h5 commM h6 cc0_scratch1 cc0_scratch2) Q) := by
  rw [k0_part1_eq_skeleton]; unfold k0_part1_skel
  simp only [Prog.lift, Prog.bind_op, Prog.bind_ret, Prog.pure_eq_ret, semSignalWord, wp_deviceId]
  rw [show (1#32).toInt = 1 from rfl]
  iintro ⟨#HI, HS⟩ Hk
  iapply (step_signal W κ c (δ := 0) (l := [1, 2]) (by revert c; decide) rfl) $$ [HS]; · iframe HI HS
  iintro HS
  iapply (step_signal W κ c (δ := 1) (l := [2]) (by revert c; decide) rfl) $$ [HS]; · iframe HI HS
  iintro HS
  iapply (step_ret c)
  iapply Hk; iexact HS

theorem part2 {v30 c4 v31} {Q : _ → sProp 𝕄} :
    iprop(fam.cellInvs ER (exRd W) κ ∗ signalling c [2] ∗ winX W c ∗ winQ W c)
      ⊢ iprop((signalling c [] ∗ winX W c ∗ winQ W c -∗ Q ⟨k0_pay1 (F := F), q2 W c, k0_pay3 (xIn W c) (qIn W c)⟩)
        -∗ wpB (F := F) c (k0_part2 A0 h0 A1 h1 A2 h2 A3 h3 A4 h4 A5 h5 commM h6 cc0_scratch1 cc0_scratch2 c bar3 v30 c4 v31) Q) := by
  rw [k0_part2_eq_skeleton]; unfold k0_part2_skel
  simp only [Prog.lift, Prog.bind_op, Prog.bind_ret, Prog.pure_eq_ret, semSignalWord, wp_deviceId]
  rw [show (1#32).toInt = 1 from rfl]
  iintro ⟨#HI, HS, HX, HQ⟩ Hk
  iapply (step_signal W κ c (δ := 2) (l := []) (by revert c; decide) rfl) $$ [HS]; · iframe HI HS
  iintro HS
  iapply (step_x W c) $$ HX
  iintro HX
  iapply (step_q W c) $$ HQ
  iintro HQ
  iapply (step_ret c)
  iapply Hk; iframe

theorem part3 {Q : _ → sProp 𝕄} :
    iprop(winK W c ∗ winV W c ∗ hpad c 0)
      ⊢ iprop((winK W c ∗ winV W c ∗ hd W c 0 -∗ Q (k0_pay5 (k0_pay1 (F := F)) (q2 W c) (kHead W c 1) (vHead W c 1)))
        -∗ wpB (F := F) c (k0_part3 A0 h0 A1 h1 A2 h2 A3 h3 A4 h4 A5 h5 commM h6 cc0_scratch1 cc0_scratch2 k0_pay1 (q2 W c) (k0_pay3 (xIn W c) (qIn W c))) Q) := by
  rw [k0_part3_eq_skeleton]; unfold k0_part3_skel
  simp only [Prog.lift, Prog.bind_op, Prog.bind_ret, Prog.pure_eq_ret]
  iintro ⟨HK, HV, H0⟩ Hk
  iapply (step_k W c 0) $$ HK
  iintro HK
  iapply (step_v W c 0) $$ HV
  iintro HV
  iapply (step_head W c 0 rfl) $$ H0
  iintro H0
  iapply (step_k W c 1) $$ HK
  iintro HK
  iapply (step_v W c 1) $$ HV
  iintro HV
  iapply (step_ret c)
  iapply Hk; iframe

theorem part4 {v2} {Q : _ → sProp 𝕄} :
    iprop(fam.cellInvs ER (exRd W) κ ∗ levAts (SiteBlocks.L K) SiteBlocks.lv ∗ signalling c [] ∗ atPos ER (barCell c) 0 ∅ 0 ∗ cred (tallyAt (barCell c) 1 3)
        ∗ bigSepL sendOrder (kit0 (F := F) c) ∗ hd W c 0 ∗ hpad c 1)
      ⊢ iprop((∀ w, copying c sendOrder.tail [(0, 0)] ∗ atPos ER (barCell c) 1 ∅ 0 ∗ keep W c 0 ∗ tok W c (1, 0) ∗ tok W c (2, 0) -∗ Q w)
        -∗ wpB (F := F) c (k0_part4 A0 h0 A1 h1 A2 h2 A3 h3 A4 h4 A5 h5 commM h6 cc0_scratch1 cc0_scratch2 c v2 bar3 (k0_pay5 (k0_pay1 (F := F)) (q2 W c) (kHead W c 1) (vHead W c 1))) Q) := by
  rw [k0_part4_eq_skeleton]; unfold k0_part4_skel
  simp only [Prog.lift, Prog.bind_op, Prog.bind_ret, Prog.pure_eq_ret, semWaitWord]
  rw [show (3#32).toInt = 3 from rfl]
  iintro ⟨#HI, #Hlev, HS, Hat, Hc, Hkit, H0, H1⟩ Hk
  iapply (step_head W c 1 rfl) $$ H1
  iintro H1
  ihave Hd := (deal W c 0) $$ [H0 H1]
  · isplitl [H0]; · iexact H0
    iexact H1
  icases Hd with ⟨Hkeep, T0, T1, T2⟩
  iapply (step_barrier W κ c rfl) $$ [HS Hat Hc]; · iframe HI Hlev HS Hat Hc
  iintro ⟨HO, Hat, Hb⟩
  ihave HC := (step_ready c) $$ [HO Hb Hkit]; · iframe HO Hb Hkit
  iapply (step_copy W κ c (0, 0) (l := sendOrder.tail) (acc := []) (by revert c; decide) rfl rfl rfl rfl) $$ [HC T0]; · iframe HI HC T0
  iintro HC
  iapply (step_ret c)
  iapply Hk; iframe

theorem part5 {v2 v131 v132 v133} {Q : _ → sProp 𝕄} :
    iprop(fam.cellInvs ER (exRd W) κ ∗ copying c [(1, 0), (2, 0), (0, 1), (1, 1), (2, 1), (0, 2), (1, 2), (2, 2), (0, 3), (1, 3), (2, 3)] [(0, 0)] ∗ tok W c (1, 0))
      ⊢ iprop((∀ w, copying c [(2, 0), (0, 1), (1, 1), (2, 1), (0, 2), (1, 2), (2, 2), (0, 3), (1, 3), (2, 3)] [(1, 0), (0, 0)] -∗ Q w)
        -∗ wpB (F := F) c (k0_part5 A0 h0 A1 h1 A2 h2 A3 h3 A4 h4 A5 h5 commM h6 cc0_scratch1 cc0_scratch2 c v2 v131 v132 v133) Q) := by
  rw [k0_part5_eq_skeleton]; unfold k0_part5_skel
  simp only [Prog.lift, Prog.bind_op, Prog.bind_ret, Prog.pure_eq_ret]
  iintro ⟨#HI, HC, T1⟩ Hk
  iapply (step_copy W κ c (1, 0) (l := [(2, 0), (0, 1), (1, 1), (2, 1), (0, 2), (1, 2), (2, 2), (0, 3), (1, 3), (2, 3)]) (acc := [(0, 0)]) (by revert c; decide) rfl rfl rfl rfl) $$ [HC T1]; · iframe HI HC T1
  iintro HC
  iapply (step_ret c)
  iapply Hk; iframe

theorem part6 {v160 w} {Q : _ → sProp 𝕄} :
    iprop(fam.cellInvs ER (exRd W) κ ∗ copying c [(2, 0), (0, 1), (1, 1), (2, 1), (0, 2), (1, 2), (2, 2), (0, 3), (1, 3), (2, 3)] [(1, 0), (0, 0)] ∗ tok W c (2, 0) ∗ winK W c ∗ winV W c ∗ hpad c 2)
      ⊢ iprop((copying c [(0, 1), (1, 1), (2, 1), (0, 2), (1, 2), (2, 2), (0, 3), (1, 3), (2, 3)] [(2, 0), (1, 0), (0, 0)] ∗ winK W c ∗ winV W c ∗ hd W c 2 -∗ Q (k0_pay8 (k0_pay1 (F := F)) (q2 W c) (kHead W c 3)))
        -∗ wpB (F := F) c (k0_part6 A0 h0 A1 h1 A2 h2 A3 h3 A4 h4 A5 h5 commM h6 cc0_scratch1 cc0_scratch2 c k0_pay1 (q2 W c) v160 w) Q) := by
  rw [k0_part6_eq_skeleton]; unfold k0_part6_skel
  simp only [Prog.lift, Prog.bind_op, Prog.bind_ret, Prog.pure_eq_ret]
  iintro ⟨#HI, HC, T2, HK, HV, P2⟩ Hk
  iapply (step_copy W κ c (2, 0) (l := [(0, 1), (1, 1), (2, 1), (0, 2), (1, 2), (2, 2), (0, 3), (1, 3), (2, 3)]) (acc := [(1, 0), (0, 0)]) (by revert c; decide) rfl rfl rfl rfl) $$ [HC T2]; · iframe HI HC T2
  iintro HC
  iapply (step_k W c 2) $$ HK
  iintro HK
  iapply (step_v W c 2) $$ HV
  iintro HV
  iapply (step_head W c 2 rfl) $$ P2
  iintro P2
  iapply (step_k W c 3) $$ HK
  iintro HK
  iapply (step_ret c)
  iapply Hk; iframe

theorem part7 {v2} {Q : _ → sProp 𝕄} :
    iprop(winV W c ∗ hpad c 3)
      ⊢ iprop((∀ w, winV W c ∗ hd W c 3 -∗ Q w)
        -∗ wpB (F := F) c (k0_part7 A0 h0 A1 h1 A2 h2 A3 h3 A4 h4 A5 h5 commM h6 cc0_scratch1 cc0_scratch2 v2 (k0_pay8 (k0_pay1 (F := F)) (q2 W c) (kHead W c 3))) Q) := by
  rw [k0_part7_eq_skeleton]; unfold k0_part7_skel
  simp only [Prog.lift, Prog.bind_op, Prog.bind_ret, Prog.pure_eq_ret]
  iintro ⟨HV, P3⟩ Hk
  iapply (step_v W c 3) $$ HV
  iintro HV
  iapply (step_head W c 3 rfl) $$ P3
  iintro P3
  iapply (step_ret c)
  iapply Hk; iframe

theorem part8 {v2} {Q : _ → sProp 𝕄} :
    iprop(fam.cellInvs ER (exRd W) κ ∗ copying c [(0, 1), (1, 1), (2, 1), (0, 2), (1, 2), (2, 2), (0, 3), (1, 3), (2, 3)] [(2, 0), (1, 0), (0, 0)] ∗ hd W c 2 ∗ hd W c 3)
      ⊢ iprop((∀ w, copying c [(2, 1), (0, 2), (1, 2), (2, 2), (0, 3), (1, 3), (2, 3)] [(1, 1), (0, 1), (2, 0), (1, 0), (0, 0)] ∗ keep W c 1 ∗ tok W c (2, 1) -∗ Q w)
        -∗ wpB (F := F) c (k0_part8 A0 h0 A1 h1 A2 h2 A3 h3 A4 h4 A5 h5 commM h6 cc0_scratch1 cc0_scratch2 c v2) Q) := by
  rw [k0_part8_eq_skeleton]; unfold k0_part8_skel
  simp only [Prog.lift, Prog.bind_op, Prog.bind_ret, Prog.pure_eq_ret]
  iintro ⟨#HI, HC, P2, P3⟩ Hk
  ihave Hd := (deal W c 1) $$ [P2 P3]
  · isplitl [P2]; · iexact P2
    iexact P3
  icases Hd with ⟨L, T0, T1, T2⟩
  iapply (step_copy W κ c (0, 1) (l := [(1, 1), (2, 1), (0, 2), (1, 2), (2, 2), (0, 3), (1, 3), (2, 3)]) (acc := [(2, 0), (1, 0), (0, 0)]) (by revert c; decide) rfl rfl rfl rfl) $$ [HC T0]; · iframe HI HC T0
  iintro HC
  iapply (step_copy W κ c (1, 1) (l := [(2, 1), (0, 2), (1, 2), (2, 2), (0, 3), (1, 3), (2, 3)]) (acc := [(0, 1), (2, 0), (1, 0), (0, 0)]) (by revert c; decide) rfl rfl rfl rfl) $$ [HC T1]; · iframe HI HC T1
  iintro HC
  iapply (step_ret c)
  iapply Hk; iframe

theorem part9 {v255 v256 v257} {Q : _ → sProp 𝕄} :
    iprop(fam.cellInvs ER (exRd W) κ ∗ copying c [(2, 1), (0, 2), (1, 2), (2, 2), (0, 3), (1, 3), (2, 3)] [(1, 1), (0, 1), (2, 0), (1, 0), (0, 0)] ∗ tok W c (2, 1) ∗ winK W c ∗ winV W c)
      ⊢ iprop((∀ w, copying c [(0, 2), (1, 2), (2, 2), (0, 3), (1, 3), (2, 3)] [(2, 1), (1, 1), (0, 1), (2, 0), (1, 0), (0, 0)] ∗ winK W c ∗ winV W c -∗ Q ⟨w, k0_pay10 (k0_pay1 (F := F)) (q2 W c) (kHead W c 4) (vHead W c 4)⟩)
        -∗ wpB (F := F) c (k0_part9 A0 h0 A1 h1 A2 h2 A3 h3 A4 h4 A5 h5 commM h6 cc0_scratch1 cc0_scratch2 c k0_pay1 (q2 W c) v255 v256 v257) Q) := by
  rw [k0_part9_eq_skeleton]; unfold k0_part9_skel
  simp only [Prog.lift, Prog.bind_op, Prog.bind_ret, Prog.pure_eq_ret]
  iintro ⟨#HI, HC, T2, HK, HV⟩ Hk
  iapply (step_copy W κ c (2, 1) (l := [(0, 2), (1, 2), (2, 2), (0, 3), (1, 3), (2, 3)]) (acc := [(1, 1), (0, 1), (2, 0), (1, 0), (0, 0)]) (by revert c; decide) rfl rfl rfl rfl) $$ [HC T2]; · iframe HI HC T2
  iintro HC
  iapply (step_k W c 4) $$ HK
  iintro HK
  iapply (step_v W c 4) $$ HV
  iintro HV
  iapply (step_ret c)
  iapply Hk; iframe

theorem part10 {v2} {Q : _ → sProp 𝕄} :
    iprop(winK W c ∗ winV W c ∗ hpad c 4 ∗ hpad c 5)
      ⊢ iprop((∀ w, winK W c ∗ winV W c ∗ hd W c 4 ∗ hd W c 5 -∗ Q w)
        -∗ wpB (F := F) c (k0_part10 A0 h0 A1 h1 A2 h2 A3 h3 A4 h4 A5 h5 commM h6 cc0_scratch1 cc0_scratch2 v2 k0_pay1 (q2 W c) (k0_pay10 (k0_pay1 (F := F)) (q2 W c) (kHead W c 4) (vHead W c 4))) Q) := by
  rw [k0_part10_eq_skeleton]; unfold k0_part10_skel
  simp only [Prog.lift, Prog.bind_op, Prog.bind_ret, Prog.pure_eq_ret]
  iintro ⟨HK, HV, P4, P5⟩ Hk
  iapply (step_head W c 4 rfl) $$ P4
  iintro P4
  iapply (step_k W c 5) $$ HK
  iintro HK
  iapply (step_v W c 5) $$ HV
  iintro HV
  iapply (step_head W c 5 rfl) $$ P5
  iintro P5
  iapply (step_ret c)
  iapply Hk; iframe

theorem part11 {v2 v324} {Q : _ → sProp 𝕄} :
    iprop(fam.cellInvs ER (exRd W) κ ∗ copying c [(0, 2), (1, 2), (2, 2), (0, 3), (1, 3), (2, 3)] [(2, 1), (1, 1), (0, 1), (2, 0), (1, 0), (0, 0)] ∗ hd W c 4 ∗ hd W c 5)
      ⊢ iprop((∀ w, copying c [(1, 2), (2, 2), (0, 3), (1, 3), (2, 3)] [(0, 2), (2, 1), (1, 1), (0, 1), (2, 0), (1, 0), (0, 0)] ∗ keep W c 2 ∗ tok W c (1, 2) ∗ tok W c (2, 2) -∗ Q w)
        -∗ wpB (F := F) c (k0_part11 A0 h0 A1 h1 A2 h2 A3 h3 A4 h4 A5 h5 commM h6 cc0_scratch1 cc0_scratch2 c v2 v324) Q) := by
  rw [k0_part11_eq_skeleton]; unfold k0_part11_skel
  simp only [Prog.lift, Prog.bind_op, Prog.bind_ret, Prog.pure_eq_ret]
  iintro ⟨#HI, HC, P4, P5⟩ Hk
  ihave Hd := (deal W c 2) $$ [P4 P5]
  · isplitl [P4]; · iexact P4
    iexact P5
  icases Hd with ⟨L, T0, T1, T2⟩
  iapply (step_copy W κ c (0, 2) (l := [(1, 2), (2, 2), (0, 3), (1, 3), (2, 3)]) (acc := [(2, 1), (1, 1), (0, 1), (2, 0), (1, 0), (0, 0)]) (by revert c; decide) rfl rfl rfl rfl) $$ [HC T0]; · iframe HI HC T0
  iintro HC
  iapply (step_ret c)
  iapply Hk; iframe

theorem part12 {v2} {Q : _ → sProp 𝕄} :
    iprop(fam.cellInvs ER (exRd W) κ ∗ copying c [(1, 2), (2, 2), (0, 3), (1, 3), (2, 3)] [(0, 2), (2, 1), (1, 1), (0, 1), (2, 0), (1, 0), (0, 0)] ∗ tok W c (1, 2) ∗ tok W c (2, 2) ∗ winK W c)
      ⊢ iprop((∀ w, copying c [(0, 3), (1, 3), (2, 3)] [(2, 2), (1, 2), (0, 2), (2, 1), (1, 1), (0, 1), (2, 0), (1, 0), (0, 0)] ∗ winK W c -∗ Q ⟨w, k0_pay13 (k0_pay1 (F := F)) (q2 W c) (kHead W c 6)⟩)
        -∗ wpB (F := F) c (k0_part12 A0 h0 A1 h1 A2 h2 A3 h3 A4 h4 A5 h5 commM h6 cc0_scratch1 cc0_scratch2 c v2 k0_pay1 (q2 W c)) Q) := by
  rw [k0_part12_eq_skeleton]; unfold k0_part12_skel
  simp only [Prog.lift, Prog.bind_op, Prog.bind_ret, Prog.pure_eq_ret]
  iintro ⟨#HI, HC, T1, T2, HK⟩ Hk
  iapply (step_copy W κ c (1, 2) (l := [(2, 2), (0, 3), (1, 3), (2, 3)]) (acc := [(0, 2), (2, 1), (1, 1), (0, 1), (2, 0), (1, 0), (0, 0)]) (by revert c; decide) rfl rfl rfl rfl) $$ [HC T1]; · iframe HI HC T1
  iintro HC
  iapply (step_copy W κ c (2, 2) (l := [(0, 3), (1, 3), (2, 3)]) (acc := [(1, 2), (0, 2), (2, 1), (1, 1), (0, 1), (2, 0), (1, 0), (0, 0)]) (by revert c; decide) rfl rfl rfl rfl) $$ [HC T2]; · iframe HI HC T2
  iintro HC
  iapply (step_k W c 6) $$ HK
  iintro HK
  iapply (step_ret c)
  iapply Hk; iframe

theorem part13 {v2} {Q : _ → sProp 𝕄} :
    iprop(winK W c ∗ winV W c ∗ hpad c 6 ∗ hpad c 7)
      ⊢ iprop((∀ w, winK W c ∗ winV W c ∗ hd W c 6 ∗ hd W c 7 -∗ Q w)
        -∗ wpB (F := F) c (k0_part13 A0 h0 A1 h1 A2 h2 A3 h3 A4 h4 A5 h5 commM h6 cc0_scratch1 cc0_scratch2 v2 k0_pay1 (q2 W c) (k0_pay13 (k0_pay1 (F := F)) (q2 W c) (kHead W c 6))) Q) := by
  rw [k0_part13_eq_skeleton]; unfold k0_part13_skel
  simp only [Prog.lift, Prog.bind_op, Prog.bind_ret, Prog.pure_eq_ret]
  iintro ⟨HK, HV, P6, P7⟩ Hk
  iapply (step_v W c 6) $$ HV
  iintro HV
  iapply (step_head W c 6 rfl) $$ P6
  iintro P6
  iapply (step_k W c 7) $$ HK
  iintro HK
  iapply (step_v W c 7) $$ HV
  iintro HV
  iapply (step_head W c 7 rfl) $$ P7
  iintro P7
  iapply (step_ret c)
  iapply Hk; iframe

theorem part14 {v2 v417} {Q : _ → sProp 𝕄} :
    iprop(fam.cellInvs ER (exRd W) κ ∗ copying c [(0, 3), (1, 3), (2, 3)] [(2, 2), (1, 2), (0, 2), (2, 1), (1, 1), (0, 1), (2, 0), (1, 0), (0, 0)] ∗ hd W c 6 ∗ hd W c 7)
      ⊢ iprop((∀ w, copying c [(1, 3), (2, 3)] [(0, 3), (2, 2), (1, 2), (0, 2), (2, 1), (1, 1), (0, 1), (2, 0), (1, 0), (0, 0)] ∗ keep W c 3 ∗ tok W c (1, 3) ∗ tok W c (2, 3) -∗ Q w)
        -∗ wpB (F := F) c (k0_part14 A0 h0 A1 h1 A2 h2 A3 h3 A4 h4 A5 h5 commM h6 cc0_scratch1 cc0_scratch2 c v2 v417) Q) := by
  rw [k0_part14_eq_skeleton]; unfold k0_part14_skel
  simp only [Prog.lift, Prog.bind_op, Prog.bind_ret, Prog.pure_eq_ret]
  iintro ⟨#HI, HC, P6, P7⟩ Hk
  ihave Hd := (deal W c 3) $$ [P6 P7]
  · isplitl [P6]; · iexact P6
    iexact P7
  icases Hd with ⟨L, T0, T1, T2⟩
  iapply (step_copy W κ c (0, 3) (l := [(1, 3), (2, 3)]) (acc := [(2, 2), (1, 2), (0, 2), (2, 1), (1, 1), (0, 1), (2, 0), (1, 0), (0, 0)]) (by revert c; decide) rfl rfl rfl rfl) $$ [HC T0]; · iframe HI HC T0
  iintro HC
  iapply (step_ret c)
  iapply Hk; iframe

theorem part15 {v2 v448} {Q : _ → sProp 𝕄} :
    iprop(fam.cellInvs ER (exRd W) κ ∗ copying c [(1, 3), (2, 3)] [(0, 3), (2, 2), (1, 2), (0, 2), (2, 1), (1, 1), (0, 1), (2, 0), (1, 0), (0, 0)] ∗ tok W c (1, 3))
      ⊢ iprop((∀ w, copying c [(2, 3)] [(1, 3), (0, 3), (2, 2), (1, 2), (0, 2), (2, 1), (1, 1), (0, 1), (2, 0), (1, 0), (0, 0)] -∗ Q w)
        -∗ wpB (F := F) c (k0_part15 A0 h0 A1 h1 A2 h2 A3 h3 A4 h4 A5 h5 commM h6 cc0_scratch1 cc0_scratch2 c v2 v448) Q) := by
  rw [k0_part15_eq_skeleton]; unfold k0_part15_skel
  simp only [Prog.lift, Prog.bind_op, Prog.bind_ret, Prog.pure_eq_ret]
  iintro ⟨#HI, HC, T1⟩ Hk
  iapply (step_copy W κ c (1, 3) (l := [(2, 3)]) (acc := [(0, 3), (2, 2), (1, 2), (0, 2), (2, 1), (1, 1), (0, 1), (2, 0), (1, 0), (0, 0)]) (by revert c; decide) rfl rfl rfl rfl) $$ [HC T1]; · iframe HI HC T1
  iintro HC
  iapply (step_ret c)
  iapply Hk; iframe

theorem part16 {v2 a} {Q : _ → sProp 𝕄} :
    iprop(fam.cellInvs ER (exRd W) κ ∗ copying c [(2, 3)] [(1, 3), (0, 3), (2, 2), (1, 2), (0, 2), (2, 1), (1, 1), (0, 1), (2, 0), (1, 0), (0, 0)] ∗ tok W c (2, 3) ∗ winO W c ∗ winOut c a ∗ keep W c 0 ∗ keep W c 1 ∗ keep W c 2 ∗ keep W c 3)
      ⊢ iprop((copying c [] [(2, 3), (1, 3), (0, 3), (2, 2), (1, 2), (0, 2), (2, 1), (1, 1), (0, 1), (2, 0), (1, 0), (0, 0)] ∗ winO W c ∗ winOut c (Function.update a 0 (acc0 W c 0)) ∗ keep W c 0 ∗ keep W c 1 ∗ keep W c 2 ∗ keep W c 3 -∗ Q (k0_pay18 (wov W c 0) (slabv W c 0 1)))
        -∗ wpB (F := F) c (k0_part16 A0 h0 A1 h1 A2 h2 A3 h3 A4 h4 A5 h5 commM h6 cc0_scratch1 cc0_scratch2 c v2) Q) := by
  rw [k0_part16_eq_skeleton]; unfold k0_part16_skel
  simp only [Prog.lift, Prog.bind_op, Prog.bind_ret, Prog.pure_eq_ret]
  iintro ⟨#HI, HC, T2, HO, HA, K0, K1, K2, K3⟩ Hk
  iapply (step_copy W κ c (2, 3) (l := []) (acc := [(1, 3), (0, 3), (2, 2), (1, 2), (0, 2), (2, 1), (1, 1), (0, 1), (2, 0), (1, 0), (0, 0)]) (by revert c; decide) rfl rfl rfl rfl) $$ [HC T2]; · iframe HI HC T2
  iintro HC
  iapply (step_wo W c 0) $$ HO
  iintro HO
  iapply (step_rows W c (shareDrop fullShare 3) 0 0 (k₀ := 0) (k₁ := 1) rfl rfl) $$ [K0 K1]
  · isplitl [K0]; · iexact K0
    iexact K1
  iintro ⟨K0, K1⟩
  iapply (step_oload c 0) $$ HA
  iintro HA
  iapply (step_oput c 0 (n := acc0 W c) rfl) $$ HA
  iintro HA
  iapply (step_rows W c (shareDrop fullShare 3) 0 1 (k₀ := 2) (k₁ := 3) rfl rfl) $$ [K2 K3]
  · isplitl [K2]; · iexact K2
    iexact K3
  iintro ⟨K2, K3⟩
  iapply (step_oload c 1) $$ HA
  iintro HA
  iapply (step_ret c)
  iapply Hk; iframe

theorem part17 {v118 v221 v324 a} {Q : _ → sProp 𝕄} :
    iprop(fam.cellInvs ER (exRd W) κ ∗ receiving c [(0, 0), (0, 1), (0, 2), (0, 3), (2, 0), (2, 1), (2, 2), (2, 3), (1, 0), (1, 1), (1, 2), (1, 3)] [] ∗ winOut c (Function.update a 0 (acc0 W c 0)))
      ⊢ iprop((∀ w, receiving c [(0, 2), (0, 3), (2, 0), (2, 1), (2, 2), (2, 3), (1, 0), (1, 1), (1, 2), (1, 3)] [(0, 1), (0, 0)] ∗ winOut c (acc0 W c) ∗ pc W c fullShare 1 0 ∗ pc W c fullShare 1 1 -∗ Q w)
        -∗ wpB (F := F) c (k0_part17 A0 h0 A1 h1 A2 h2 A3 h3 A4 h4 A5 h5 commM h6 cc0_scratch1 cc0_scratch2 v118 v221 v324 (k0_pay18 (wov W c 0) (slabv W c 0 1))) Q) := by
  rw [k0_part17_eq_skeleton]; unfold k0_part17_skel
  simp only [Prog.lift, Prog.bind_op, Prog.bind_ret, Prog.pure_eq_ret]
  iintro ⟨#HI, HR, HA⟩ Hk
  iapply (step_oput c 1 (n := acc0 W c) rfl) $$ HA
  iintro HA
  ihave HA := (out_two c a (acc0 W c)) $$ HA
  iapply (step_take W κ c 0 0 (st := 1) rfl (l := [(0, 1), (0, 2), (0, 3), (2, 0), (2, 1), (2, 2), (2, 3), (1, 0), (1, 1), (1, 2), (1, 3)]) (acc := []) rfl rfl) $$ [HR]; · iframe HI HR
  iintro ⟨HR, R0⟩
  iapply (step_take W κ c 0 1 (st := 1) rfl (l := [(0, 2), (0, 3), (2, 0), (2, 1), (2, 2), (2, 3), (1, 0), (1, 1), (1, 2), (1, 3)]) (acc := [(0, 0)]) rfl rfl) $$ [HR]; · iframe HI HR
  iintro ⟨HR, R1⟩
  iapply (step_ret c)
  iapply Hk; iframe

theorem part18 {v2 v427} {Q : _ → sProp 𝕄} :
    iprop(fam.cellInvs ER (exRd W) κ ∗ receiving c [(0, 2), (0, 3), (2, 0), (2, 1), (2, 2), (2, 3), (1, 0), (1, 1), (1, 2), (1, 3)] [(0, 1), (0, 0)] ∗ winO W c)
      ⊢ iprop((receiving c [(2, 0), (2, 1), (2, 2), (2, 3), (1, 0), (1, 1), (1, 2), (1, 3)] [(0, 3), (0, 2), (0, 1), (0, 0)] ∗ winO W c ∗ pc W c fullShare 1 2 ∗ pc W c fullShare 1 3 -∗ Q (k0_pay19 (wov W c 1)))
        -∗ wpB (F := F) c (k0_part18 A0 h0 A1 h1 A2 h2 A3 h3 A4 h4 A5 h5 commM h6 cc0_scratch1 cc0_scratch2 c v2 v427) Q) := by
  rw [k0_part18_eq_skeleton]; unfold k0_part18_skel
  simp only [Prog.lift, Prog.bind_op, Prog.bind_ret, Prog.pure_eq_ret]
  iintro ⟨#HI, HR, HO⟩ Hk
  iapply (step_take W κ c 0 2 (st := 1) rfl (l := [(0, 3), (2, 0), (2, 1), (2, 2), (2, 3), (1, 0), (1, 1), (1, 2), (1, 3)]) (acc := [(0, 1), (0, 0)]) rfl rfl) $$ [HR]; · iframe HI HR
  iintro ⟨HR, R2⟩
  iapply (step_take W κ c 0 3 (st := 1) rfl (l := [(2, 0), (2, 1), (2, 2), (2, 3), (1, 0), (1, 1), (1, 2), (1, 3)]) (acc := [(0, 2), (0, 1), (0, 0)]) rfl rfl) $$ [HR]; · iframe HI HR
  iintro ⟨HR, R3⟩
  iapply (step_wo W c 1) $$ HO
  iintro HO
  iapply (step_ret c)
  iapply Hk; iframe

theorem part19 {v160} {Q : _ → sProp 𝕄} :
    iprop(winOut c (acc0 W c) ∗ pc W c fullShare 1 0 ∗ pc W c fullShare 1 1 ∗ pc W c fullShare 1 2 ∗ pc W c fullShare 1 3)
      ⊢ iprop((∀ w, winOut c (acc1 W c) ∗ pc W c fullShare 1 0 ∗ pc W c fullShare 1 1 ∗ pc W c fullShare 1 2 ∗ pc W c fullShare 1 3 -∗ Q w)
        -∗ wpB (F := F) c (k0_part19 A0 h0 A1 h1 A2 h2 A3 h3 A4 h4 A5 h5 commM h6 cc0_scratch1 cc0_scratch2 v160 (k0_pay19 (wov W c 1))) Q) := by
  rw [k0_part19_eq_skeleton]; unfold k0_part19_skel
  simp only [Prog.lift, Prog.bind_op, Prog.bind_ret, Prog.pure_eq_ret]
  iintro ⟨HA, R0, R1, R2, R3⟩ Hk
  iapply (step_rows W c fullShare 1 0 (k₀ := 0) (k₁ := 1) rfl rfl) $$ [R0 R1]
  · isplitl [R0]; · iexact R0
    iexact R1
  iintro ⟨R0, R1⟩
  iapply (step_oload c 0) $$ HA
  iintro HA
  iapply (step_oload c 0) $$ HA
  iintro HA
  iapply (step_oput c 0 (n := acc1 W c) rfl) $$ HA
  iintro HA
  iapply (step_rows W c fullShare 1 1 (k₀ := 2) (k₁ := 3) rfl rfl) $$ [R2 R3]
  · isplitl [R2]; · iexact R2
    iexact R3
  iintro ⟨R2, R3⟩
  iapply (step_oload c 1) $$ HA
  iintro HA
  iapply (step_oload c 1) $$ HA
  iintro HA
  iapply (step_oput c 1 (n := acc1 W c) rfl) $$ HA
  iintro HA
  ihave HA := (out_two c (acc0 W c) (acc1 W c)) $$ HA
  iapply (step_ret c)
  iapply Hk; iframe

theorem part20 {v263 v366 v469} {Q : _ → sProp 𝕄} :
    iprop(fam.cellInvs ER (exRd W) κ ∗ receiving c [(2, 0), (2, 1), (2, 2), (2, 3), (1, 0), (1, 1), (1, 2), (1, 3)] [(0, 3), (0, 2), (0, 1), (0, 0)])
      ⊢ iprop((∀ w, receiving c [(2, 3), (1, 0), (1, 1), (1, 2), (1, 3)] [(2, 2), (2, 1), (2, 0), (0, 3), (0, 2), (0, 1), (0, 0)] ∗ pc W c fullShare 3 0 ∗ pc W c fullShare 3 1 ∗ pc W c fullShare 3 2 -∗ Q w)
        -∗ wpB (F := F) c (k0_part20 A0 h0 A1 h1 A2 h2 A3 h3 A4 h4 A5 h5 commM h6 cc0_scratch1 cc0_scratch2 v263 v366 v469) Q) := by
  rw [k0_part20_eq_skeleton]; unfold k0_part20_skel
  simp only [Prog.lift, Prog.bind_op, Prog.bind_ret, Prog.pure_eq_ret]
  iintro ⟨#HI, HR⟩ Hk
  iapply (step_take W κ c 2 0 (st := 3) rfl (l := [(2, 1), (2, 2), (2, 3), (1, 0), (1, 1), (1, 2), (1, 3)]) (acc := [(0, 3), (0, 2), (0, 1), (0, 0)]) rfl rfl) $$ [HR]; · iframe HI HR
  iintro ⟨HR, R0⟩
  iapply (step_take W κ c 2 1 (st := 3) rfl (l := [(2, 2), (2, 3), (1, 0), (1, 1), (1, 2), (1, 3)]) (acc := [(2, 0), (0, 3), (0, 2), (0, 1), (0, 0)]) rfl rfl) $$ [HR]; · iframe HI HR
  iintro ⟨HR, R1⟩
  iapply (step_take W κ c 2 2 (st := 3) rfl (l := [(2, 3), (1, 0), (1, 1), (1, 2), (1, 3)]) (acc := [(2, 1), (2, 0), (0, 3), (0, 2), (0, 1), (0, 0)]) rfl rfl) $$ [HR]; · iframe HI HR
  iintro ⟨HR, R2⟩
  iapply (step_ret c)
  iapply Hk; iframe

theorem part21 {v2} {Q : _ → sProp 𝕄} :
    iprop(fam.cellInvs ER (exRd W) κ ∗ receiving c [(2, 3), (1, 0), (1, 1), (1, 2), (1, 3)] [(2, 2), (2, 1), (2, 0), (0, 3), (0, 2), (0, 1), (0, 0)] ∗ winO W c ∗ winOut c (acc1 W c) ∗ pc W c fullShare 3 0 ∗ pc W c fullShare 3 1)
      ⊢ iprop((receiving c [(1, 0), (1, 1), (1, 2), (1, 3)] [(2, 3), (2, 2), (2, 1), (2, 0), (0, 3), (0, 2), (0, 1), (0, 0)] ∗ winO W c ∗ winOut c (Function.update (acc1 W c) 0 (acc2 W c 0)) ∗ pc W c fullShare 3 0 ∗ pc W c fullShare 3 1 ∗ pc W c fullShare 3 3 -∗ Q (k0_pay22 (wov W c 3)))
        -∗ wpB (F := F) c (k0_part21 A0 h0 A1 h1 A2 h2 A3 h3 A4 h4 A5 h5 commM h6 cc0_scratch1 cc0_scratch2 c v2) Q) := by
  rw [k0_part21_eq_skeleton]; unfold k0_part21_skel
  simp only [Prog.lift, Prog.bind_op, Prog.bind_ret, Prog.pure_eq_ret]
  iintro ⟨#HI, HR, HO, HA, R0, R1⟩ Hk
  iapply (step_take W κ c 2 3 (st := 3) rfl (l := [(1, 0), (1, 1), (1, 2), (1, 3)]) (acc := [(2, 2), (2, 1), (2, 0), (0, 3), (0, 2), (0, 1), (0, 0)]) rfl rfl) $$ [HR]; · iframe HI HR
  iintro ⟨HR, R3⟩
  iapply (step_wo W c 3) $$ HO
  iintro HO
  iapply (step_rows W c fullShare 3 0 (k₀ := 0) (k₁ := 1) rfl rfl) $$ [R0 R1]
  · isplitl [R0]; · iexact R0
    iexact R1
  iintro ⟨R0, R1⟩
  iapply (step_oload c 0) $$ HA
  iintro HA
  iapply (step_oload c 0) $$ HA
  iintro HA
  iapply (step_oput c 0 (n := acc2 W c) rfl) $$ HA
  iintro HA
  iapply (step_ret c)
  iapply Hk; iframe

theorem part22 {v139 v242} {Q : _ → sProp 𝕄} :
    iprop(fam.cellInvs ER (exRd W) κ ∗ receiving c [(1, 0), (1, 1), (1, 2), (1, 3)] [(2, 3), (2, 2), (2, 1), (2, 0), (0, 3), (0, 2), (0, 1), (0, 0)] ∗ winOut c (Function.update (acc1 W c) 0 (acc2 W c 0)) ∗ pc W c fullShare 3 2 ∗ pc W c fullShare 3 3)
      ⊢ iprop((∀ w, receiving c [(1, 1), (1, 2), (1, 3)] [(1, 0), (2, 3), (2, 2), (2, 1), (2, 0), (0, 3), (0, 2), (0, 1), (0, 0)] ∗ winOut c (acc2 W c) ∗ pc W c fullShare 3 2 ∗ pc W c fullShare 3 3 ∗ pc W c fullShare 2 0 -∗ Q w)
        -∗ wpB (F := F) c (k0_part22 A0 h0 A1 h1 A2 h2 A3 h3 A4 h4 A5 h5 commM h6 cc0_scratch1 cc0_scratch2 v139 v242 (k0_pay22 (wov W c 3))) Q) := by
  rw [k0_part22_eq_skeleton]; unfold k0_part22_skel
  simp only [Prog.lift, Prog.bind_op, Prog.bind_ret, Prog.pure_eq_ret]
  iintro ⟨#HI, HR, HA, R2, R3⟩ Hk
  iapply (step_rows W c fullShare 3 1 (k₀ := 2) (k₁ := 3) rfl rfl) $$ [R2 R3]
  · isplitl [R2]; · iexact R2
    iexact R3
  iintro ⟨R2, R3⟩
  iapply (step_oload c 1) $$ HA
  iintro HA
  iapply (step_oload c 1) $$ HA
  iintro HA
  iapply (step_oput c 1 (n := acc2 W c) rfl) $$ HA
  iintro HA
  ihave HA := (out_two c (acc1 W c) (acc2 W c)) $$ HA
  iapply (step_take W κ c 1 0 (st := 2) rfl (l := [(1, 1), (1, 2), (1, 3)]) (acc := [(2, 3), (2, 2), (2, 1), (2, 0), (0, 3), (0, 2), (0, 1), (0, 0)]) rfl rfl) $$ [HR]; · iframe HI HR
  iintro ⟨HR, R0⟩
  iapply (step_ret c)
  iapply Hk; iframe

theorem part23 {v2 v345 v448} {Q : _ → sProp 𝕄} :
    iprop(fam.cellInvs ER (exRd W) κ ∗ receiving c [(1, 1), (1, 2), (1, 3)] [(1, 0), (2, 3), (2, 2), (2, 1), (2, 0), (0, 3), (0, 2), (0, 1), (0, 0)])
      ⊢ iprop((∀ w, receiving c [] [(1, 3), (1, 2), (1, 1), (1, 0), (2, 3), (2, 2), (2, 1), (2, 0), (0, 3), (0, 2), (0, 1), (0, 0)] ∗ pc W c fullShare 2 1 ∗ pc W c fullShare 2 2 ∗ pc W c fullShare 2 3 -∗ Q w)
        -∗ wpB (F := F) c (k0_part23 A0 h0 A1 h1 A2 h2 A3 h3 A4 h4 A5 h5 commM h6 cc0_scratch1 cc0_scratch2 v2 v345 v448) Q) := by
  rw [k0_part23_eq_skeleton]; unfold k0_part23_skel
  simp only [Prog.lift, Prog.bind_op, Prog.bind_ret, Prog.pure_eq_ret]
  iintro ⟨#HI, HR⟩ Hk
  iapply (step_take W κ c 1 1 (st := 2) rfl (l := [(1, 2), (1, 3)]) (acc := [(1, 0), (2, 3), (2, 2), (2, 1), (2, 0), (0, 3), (0, 2), (0, 1), (0, 0)]) rfl rfl) $$ [HR]; · iframe HI HR
  iintro ⟨HR, R1⟩
  iapply (step_take W κ c 1 2 (st := 2) rfl (l := [(1, 3)]) (acc := [(1, 1), (1, 0), (2, 3), (2, 2), (2, 1), (2, 0), (0, 3), (0, 2), (0, 1), (0, 0)]) rfl rfl) $$ [HR]; · iframe HI HR
  iintro ⟨HR, R2⟩
  iapply (step_take W κ c 1 3 (st := 2) rfl (l := []) (acc := [(1, 2), (1, 1), (1, 0), (2, 3), (2, 2), (2, 1), (2, 0), (0, 3), (0, 2), (0, 1), (0, 0)]) rfl rfl) $$ [HR]; · iframe HI HR
  iintro ⟨HR, R3⟩
  iapply (step_ret c)
  iapply Hk; iframe

theorem part24 {v671 v672 v673 w0} {Q : _ → sProp 𝕄} :
    iprop(winO W c ∗ winOut c (acc2 W c) ∗ pc W c fullShare 2 0 ∗ pc W c fullShare 2 1 ∗ pc W c fullShare 2 2 ∗ pc W c fullShare 2 3)
      ⊢ iprop((∀ w, winO W c ∗ winOut c (acc3 W c) ∗ pc W c fullShare 2 0 ∗ pc W c fullShare 2 1 ∗ pc W c fullShare 2 2 ∗ pc W c fullShare 2 3 -∗ Q w)
        -∗ wpB (F := F) c (k0_part24 A0 h0 A1 h1 A2 h2 A3 h3 A4 h4 A5 h5 commM h6 cc0_scratch1 cc0_scratch2 c v671 v672 v673 w0) Q) := by
  rw [k0_part24_eq_skeleton]; unfold k0_part24_skel
  simp only [Prog.lift, Prog.bind_op, Prog.bind_ret, Prog.pure_eq_ret]
  iintro ⟨HO, HA, R0, R1, R2, R3⟩ Hk
  iapply (step_wo W c 2) $$ HO
  iintro HO
  iapply (step_rows W c fullShare 2 0 (k₀ := 0) (k₁ := 1) rfl rfl) $$ [R0 R1]
  · isplitl [R0]; · iexact R0
    iexact R1
  iintro ⟨R0, R1⟩
  iapply (step_oload c 0) $$ HA
  iintro HA
  iapply (step_oload c 0) $$ HA
  iintro HA
  iapply (step_oput c 0 (n := acc3 W c) rfl) $$ HA
  iintro HA
  iapply (step_rows W c fullShare 2 1 (k₀ := 2) (k₁ := 3) rfl rfl) $$ [R2 R3]
  · isplitl [R2]; · iexact R2
    iexact R3
  iintro ⟨R2, R3⟩
  iapply (step_oload c 1) $$ HA
  iintro HA
  iapply (step_oload c 1) $$ HA
  iintro HA
  iapply (step_oput c 1 (n := acc3 W c) rfl) $$ HA
  iintro HA
  ihave HA := (out_two c (acc2 W c) (acc3 W c)) $$ HA
  iapply (step_ret c)
  iapply Hk; iframe

theorem part25 {Q : _ → sProp 𝕄} :
    iprop(fam.cellInvs ER (exRd W) κ ∗ draining c [(0, 0), (0, 1), (0, 2), (0, 3), (1, 0), (1, 1), (1, 2), (1, 3), (2, 0), (2, 1), (2, 2), (2, 3)] [])
      ⊢ iprop((∀ w, draining c [(0, 3), (1, 0), (1, 1), (1, 2), (1, 3), (2, 0), (2, 1), (2, 2), (2, 3)] [(0, 2), (0, 1), (0, 0)] ∗ tok W c (0, 0) ∗ tok W c (0, 1) ∗ tok W c (0, 2) -∗ Q w)
        -∗ wpB (F := F) c (k0_part25 A0 h0 A1 h1 A2 h2 A3 h3 A4 h4 A5 h5 commM h6 cc0_scratch1 cc0_scratch2 ) Q) := by
  rw [k0_part25_eq_skeleton]; unfold k0_part25_skel
  simp only [Prog.lift, Prog.bind_op, Prog.bind_ret, Prog.pure_eq_ret]
  iintro ⟨#HI, HD⟩ Hk
  iapply (step_drain W κ c (0, 0) (l := [(0, 1), (0, 2), (0, 3), (1, 0), (1, 1), (1, 2), (1, 3), (2, 0), (2, 1), (2, 2), (2, 3)]) (acc := []) rfl rfl) $$ [HD]; · iframe HI HD
  iintro ⟨HD, T00⟩
  iapply (step_drain W κ c (0, 1) (l := [(0, 2), (0, 3), (1, 0), (1, 1), (1, 2), (1, 3), (2, 0), (2, 1), (2, 2), (2, 3)]) (acc := [(0, 0)]) rfl rfl) $$ [HD]; · iframe HI HD
  iintro ⟨HD, T01⟩
  iapply (step_drain W κ c (0, 2) (l := [(0, 3), (1, 0), (1, 1), (1, 2), (1, 3), (2, 0), (2, 1), (2, 2), (2, 3)]) (acc := [(0, 1), (0, 0)]) rfl rfl) $$ [HD]; · iframe HI HD
  iintro ⟨HD, T02⟩
  iapply (step_ret c)
  iapply Hk; iframe

theorem part26 {Q : _ → sProp 𝕄} :
    iprop(fam.cellInvs ER (exRd W) κ ∗ draining c [(0, 3), (1, 0), (1, 1), (1, 2), (1, 3), (2, 0), (2, 1), (2, 2), (2, 3)] [(0, 2), (0, 1), (0, 0)])
      ⊢ iprop((∀ w, draining c [(1, 2), (1, 3), (2, 0), (2, 1), (2, 2), (2, 3)] [(1, 1), (1, 0), (0, 3), (0, 2), (0, 1), (0, 0)] ∗ tok W c (0, 3) ∗ tok W c (1, 0) ∗ tok W c (1, 1) -∗ Q w)
        -∗ wpB (F := F) c (k0_part26 A0 h0 A1 h1 A2 h2 A3 h3 A4 h4 A5 h5 commM h6 cc0_scratch1 cc0_scratch2 ) Q) := by
  rw [k0_part26_eq_skeleton]; unfold k0_part26_skel
  simp only [Prog.lift, Prog.bind_op, Prog.bind_ret, Prog.pure_eq_ret]
  iintro ⟨#HI, HD⟩ Hk
  iapply (step_drain W κ c (0, 3) (l := [(1, 0), (1, 1), (1, 2), (1, 3), (2, 0), (2, 1), (2, 2), (2, 3)]) (acc := [(0, 2), (0, 1), (0, 0)]) rfl rfl) $$ [HD]; · iframe HI HD
  iintro ⟨HD, T03⟩
  iapply (step_drain W κ c (1, 0) (l := [(1, 1), (1, 2), (1, 3), (2, 0), (2, 1), (2, 2), (2, 3)]) (acc := [(0, 3), (0, 2), (0, 1), (0, 0)]) rfl rfl) $$ [HD]; · iframe HI HD
  iintro ⟨HD, T10⟩
  iapply (step_drain W κ c (1, 1) (l := [(1, 2), (1, 3), (2, 0), (2, 1), (2, 2), (2, 3)]) (acc := [(1, 0), (0, 3), (0, 2), (0, 1), (0, 0)]) rfl rfl) $$ [HD]; · iframe HI HD
  iintro ⟨HD, T11⟩
  iapply (step_ret c)
  iapply Hk; iframe

theorem part27 {Q : _ → sProp 𝕄} :
    iprop(fam.cellInvs ER (exRd W) κ ∗ draining c [(1, 2), (1, 3), (2, 0), (2, 1), (2, 2), (2, 3)] [(1, 1), (1, 0), (0, 3), (0, 2), (0, 1), (0, 0)])
      ⊢ iprop((∀ w, draining c [(2, 1), (2, 2), (2, 3)] [(2, 0), (1, 3), (1, 2), (1, 1), (1, 0), (0, 3), (0, 2), (0, 1), (0, 0)] ∗ tok W c (1, 2) ∗ tok W c (1, 3) ∗ tok W c (2, 0) -∗ Q w)
        -∗ wpB (F := F) c (k0_part27 A0 h0 A1 h1 A2 h2 A3 h3 A4 h4 A5 h5 commM h6 cc0_scratch1 cc0_scratch2 ) Q) := by
  rw [k0_part27_eq_skeleton]; unfold k0_part27_skel
  simp only [Prog.lift, Prog.bind_op, Prog.bind_ret, Prog.pure_eq_ret]
  iintro ⟨#HI, HD⟩ Hk
  iapply (step_drain W κ c (1, 2) (l := [(1, 3), (2, 0), (2, 1), (2, 2), (2, 3)]) (acc := [(1, 1), (1, 0), (0, 3), (0, 2), (0, 1), (0, 0)]) rfl rfl) $$ [HD]; · iframe HI HD
  iintro ⟨HD, T12⟩
  iapply (step_drain W κ c (1, 3) (l := [(2, 0), (2, 1), (2, 2), (2, 3)]) (acc := [(1, 2), (1, 1), (1, 0), (0, 3), (0, 2), (0, 1), (0, 0)]) rfl rfl) $$ [HD]; · iframe HI HD
  iintro ⟨HD, T13⟩
  iapply (step_drain W κ c (2, 0) (l := [(2, 1), (2, 2), (2, 3)]) (acc := [(1, 3), (1, 2), (1, 1), (1, 0), (0, 3), (0, 2), (0, 1), (0, 0)]) rfl rfl) $$ [HD]; · iframe HI HD
  iintro ⟨HD, T20⟩
  iapply (step_ret c)
  iapply Hk; iframe

end Parts

end Cert.KernelIdeal.Own

end
-- ==== Proof.Whole.lean ====
/-
  The body, from its parts.
-/
module

public import proofs.«01_k».proof.Proof.Body

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Transfers (shareTok shareDrop)
open Cert.KernelIdeal.Gen

variable {F : FTy → Type} [FloatOps F] [Named F]

local notation "𝕄" => MT nD τ sig ℕ (Elt F) ℕ UU ℕ

section Whole

variable (W : Dev nD → Valuation τ sig (Elt F)) (κ : GSem nD τ sig → ℕ) (c : Dev nD)
variable (h0 : A0.IsWhole) (h1 : A1.IsWhole) (h2 : A2.IsWhole) (h3 : A3.IsWhole) (h4 : A4.IsWhole) (h5 : A5.IsWhole) (h6 : commM.IsWhole)

theorem exL (l : List Ex) (h : Finset.univ = l.toFinset) (hl : l.Nodup) (Φ : Ex → sProp 𝕄) : bigSep Finset.univ Φ = bigSepL l Φ :=
  bigSep_eq_bigSepL_of_eq (S := (Finset.univ : Finset Ex)) l h hl Φ

theorem step_bind {α β : Type} {p : Prog (TpuEff nD τ sig (Elt F) Λ₀ .tc) α} {k : α → Prog (TpuEff nD τ sig (Elt F) Λ₀ .tc) β} {Q : β → sProp 𝕄} :
    wpB (F := F) c p (fun a => wpB c (k a) Q) ⊢ wpB c (p >>= k) Q :=
  Entails.of_eq (wp_bind frame (wpE (defs₀ (F := F)) 𝒱₀ (c : Thread nD τ) none) Set.univ p k Q).symm

/-- The credits of the send waits. -/
abbrev sendCreds : sProp 𝕄 := bigSep Finset.univ fun x : Ex => (cred (tallyAt (sendCell c x) 3 N) : sProp 𝕄)

/-- After the last copy, before the first receive wait. -/
theorem to_receive : iprop(copying (F := F) c [] [(2, 3), (1, 3), (0, 3), (2, 2), (1, 2), (0, 2), (2, 1), (1, 1), (0, 1), (2, 0), (1, 0), (0, 0)] ∗ bigSep Finset.univ (rkit (F := F) c)) ⊢ iprop(receiving (F := F) c [(0, 0), (0, 1), (0, 2), (0, 3), (2, 0), (2, 1), (2, 2), (2, 3), (1, 0), (1, 1), (1, 2), (1, 3)] [] ∗ sendCreds c) := by
  unfold copying receiving
  rw [exL [(0, 0), (0, 1), (0, 2), (0, 3), (2, 0), (2, 1), (2, 2), (2, 3), (1, 0), (1, 1), (1, 2), (1, 3)] (by decide) (by decide), sendCreds, exL [(2, 3), (1, 3), (0, 3), (2, 2), (1, 2), (0, 2), (2, 1), (1, 1), (0, 1), (2, 0), (1, 0), (0, 0)] (by decide) (by decide)]
  iintro ⟨⟨-, Hc, ⟨%Wt, HO⟩⟩, Hk⟩
  isplitr [Hc]
  · isplitl [Hk]; · iexact Hk
    isplitr [HO]; · iempintro
    iexists Wt; iexact HO
  · iexact Hc

theorem skits : iprop((bigSep Finset.univ fun x : Ex => (atPos ER (sendCell c x) 0 ∅ 0 : sProp 𝕄)) ∗ sendCreds c) ⊢ bigSep Finset.univ (skit (F := F) c) :=
  Entails.of_eq (bigSep_sep' Finset.univ (fun x : Ex => (atPos ER (sendCell c x) 0 ∅ 0 : sProp 𝕄)) fun x => (cred (tallyAt (sendCell c x) 3 N) : sProp 𝕄)).symm

/-- After the last receive wait, before the first send wait. -/
theorem to_drain : iprop(receiving (F := F) c [] [(1, 3), (1, 2), (1, 1), (1, 0), (2, 3), (2, 2), (2, 1), (2, 0), (0, 3), (0, 2), (0, 1), (0, 0)] ∗ (bigSep Finset.univ fun x : Ex => (atPos ER (sendCell c x) 0 ∅ 0 : sProp 𝕄)) ∗ sendCreds c)
    ⊢ iprop(draining (F := F) c [(0, 0), (0, 1), (0, 2), (0, 3), (1, 0), (1, 1), (1, 2), (1, 3), (2, 0), (2, 1), (2, 2), (2, 3)] [] ∗ bigSep Finset.univ fun x : Ex => (semVal (recvCell c x) 0 : sProp 𝕄)) := by
  refine (sep_mono .rfl (skits c)).trans ?_
  unfold receiving draining
  rw [exL [(0, 0), (0, 1), (0, 2), (0, 3), (1, 0), (1, 1), (1, 2), (1, 3), (2, 0), (2, 1), (2, 2), (2, 3)] (by decide) (by decide), exL [(1, 3), (1, 2), (1, 1), (1, 0), (2, 3), (2, 2), (2, 1), (2, 0), (0, 3), (0, 2), (0, 1), (0, 0)] (by decide) (by decide)]
  iintro ⟨⟨-, Hv, ⟨%Wt, HO⟩⟩, Hs⟩
  isplitr [Hv]
  · isplitl [Hs]; · iexact Hs
    isplitr [HO]; · iempintro
    iexists Wt; iexact HO
  · iexact Hv

theorem drained : draining (F := F) c [] [(2, 3), (2, 2), (2, 1), (2, 0), (1, 3), (1, 2), (1, 1), (1, 0), (0, 3), (0, 2), (0, 1), (0, 0)] ⊢ iprop((bigSep Finset.univ fun x : Ex => (semVal (sendCell c x) 0 : sProp 𝕄)) ∗ ∃ Wt, owes c 0 Wt) := by
  unfold draining
  rw [exL [(2, 3), (2, 2), (2, 1), (2, 0), (1, 3), (1, 2), (1, 1), (1, 0), (0, 3), (0, 2), (0, 1), (0, 0)] (by decide) (by decide)]
  iintro ⟨-, Hv, HO⟩
  iframe

/-- What the body starts from: the invariants, the exchange's tokens, its own piece of the buffer, and the windows. -/
def start (a : Fin 2 → FVec F S1x256x512 .f32) : sProp 𝕄 :=
  iprop(fam.cellInvs ER (exRd W) κ ∗ levAts (SiteBlocks.L K) SiteBlocks.lv ∗ signalling c [0, 1, 2] ∗ atPos ER (barCell c) 0 ∅ 0 ∗ cred (tallyAt (barCell c) 1 3)
    ∗ bigSepL sendOrder (kit0 (F := F) c) ∗ bigSep Finset.univ (rkit (F := F) c) ∗ (bigSep Finset.univ fun x : Ex => (atPos ER (sendCell c x) 0 ∅ 0 : sProp 𝕄))
    ∗ (hpad c 0 ∗ hpad c 1 ∗ hpad c 2 ∗ hpad c 3 ∗ hpad c 4 ∗ hpad c 5 ∗ hpad c 6 ∗ hpad c 7)
    ∗ winX W c ∗ winQ W c ∗ winK W c ∗ winV W c ∗ winO W c ∗ winOut c a)

/-- What the body ends with. -/
def done : sProp 𝕄 :=
  iprop(winX W c ∗ winQ W c ∗ winK W c ∗ winV W c ∗ winO W c ∗ winOut c (acc3 W c) ∗ atPos ER (barCell c) 1 ∅ 0
    ∗ (bigSep Finset.univ fun x : Ex => (semVal (recvCell c x) 0 : sProp 𝕄)) ∗ (bigSep Finset.univ fun x : Ex => (semVal (sendCell c x) 0 : sProp 𝕄))
    ∗ cPts c Finset.univ fullShare (ctx W c) ∗ ∃ Wt, owes c 0 Wt)

/-- The pieces make the buffer. -/
theorem whole_buffer : iprop(pc W c fullShare 0 0 ∗ pc W c fullShare 0 1 ∗ pc W c fullShare 0 2 ∗ pc W c fullShare 0 3 ∗ pc W c fullShare 1 0 ∗ pc W c fullShare 1 1 ∗ pc W c fullShare 1 2 ∗ pc W c fullShare 1 3 ∗ pc W c fullShare 2 0 ∗ pc W c fullShare 2 1 ∗ pc W c fullShare 2 2 ∗ pc W c fullShare 2 3 ∗ pc W c fullShare 3 0 ∗ pc W c fullShare 3 1 ∗ pc W c fullShare 3 2 ∗ pc W c fullShare 3 3) ⊢ cPts c Finset.univ fullShare (ctx W c) := by
  have e : (bigSep Finset.univ fun x : Fin 4 × Fin 4 => pc W c fullShare x.1 x.2 : sProp 𝕄) = bigSepL [(0, 0), (0, 1), (0, 2), (0, 3), (1, 0), (1, 1), (1, 2), (1, 3), (2, 0), (2, 1), (2, 2), (2, 3), (3, 0), (3, 1), (3, 2), (3, 3)] fun x => pc W c fullShare x.1 x.2 :=
    bigSep_eq_bigSepL_of_eq (S := (Finset.univ : Finset (Fin 4 × Fin 4))) _ (by decide) (by decide) _
  have e2 : (bigSep Finset.univ fun x : Fin 4 × Fin 4 => pc W c fullShare x.1 x.2 : sProp 𝕄) ⊢ cPts c Finset.univ fullShare (ctx W c) := by
    rw [← pieces_univ]
    exact Entails.of_eq (pointsTo_biUnion (ℓ := (c : Thread nD τ).loc cc0_scratch0) (f := ctx W c) Finset.univ (fun x : Fin 4 × Fin 4 => (pieceR x.1 x.2).set) fun x _ y _ h => pieces_disj x y h).symm
  rw [e] at e2
  simp only [sepL_cons] at e2
  iintro ⟨R00, R01, R02, R03, R10, R11, R12, R13, R20, R21, R22, R23, R30, R31, R32, R33⟩
  iapply e2
  iframe
  iempintro

theorem body28 {a : Fin 2 → FVec F S1x256x512 .f32} {Q : _ → sProp 𝕄} :
    start W κ c a ⊢ iprop((winX W c ∗ winQ W c ∗ winK W c ∗ winV W c ∗ winO W c ∗ winOut c (acc3 W c) ∗ atPos ER (barCell c) 1 ∅ 0
        ∗ (bigSep Finset.univ fun x : Ex => (semVal (recvCell c x) 0 : sProp 𝕄)) ∗ draining c [(2, 2), (2, 3)] [(2, 1), (2, 0), (1, 3), (1, 2), (1, 1), (1, 0), (0, 3), (0, 2), (0, 1), (0, 0)]
        ∗ (keep W c 0 ∗ keep W c 1 ∗ keep W c 2 ∗ keep W c 3) ∗ (tok W c (0, 0) ∗ tok W c (0, 1) ∗ tok W c (0, 2) ∗ tok W c (0, 3) ∗ tok W c (1, 0) ∗ tok W c (1, 1) ∗ tok W c (1, 2) ∗ tok W c (1, 3) ∗ tok W c (2, 0) ∗ tok W c (2, 1))
        ∗ (pc W c fullShare 1 0 ∗ pc W c fullShare 1 1 ∗ pc W c fullShare 1 2 ∗ pc W c fullShare 1 3 ∗ pc W c fullShare 2 0 ∗ pc W c fullShare 2 1 ∗ pc W c fullShare 2 2 ∗ pc W c fullShare 2 3 ∗ pc W c fullShare 3 0 ∗ pc W c fullShare 3 1 ∗ pc W c fullShare 3 2 ∗ pc W c fullShare 3 3) -∗ Q ⟨⟩)
      -∗ wpB (F := F) c (k0_part28 A0 h0 A1 h1 A2 h2 A3 h3 A4 h4 A5 h5 commM h6 cc0_scratch1 cc0_scratch2) Q) := by
  rw [k0_part28_eq_skeleton]; unfold k0_part28_skel start
  iintro ⟨#HI, #Hlev, HS, Hat, Hc, Hkit, Hrk, Hsa, ⟨P0, P1, P2, P3, P4, P5, P6, P7⟩, HX, HQ, HK, HV, HO, HA⟩ Hk
  iapply (step_bind c)
  iapply (part1 W κ c h0 h1 h2 h3 h4 h5 h6) $$ [HS]; · iframe HI HS
  iintro %v2 %v30 %c4 %v31 HS
  try dsimp only
  iapply (step_bind c)
  iapply (part2 W κ c h0 h1 h2 h3 h4 h5 h6) $$ [HS HX HQ]; · iframe HI HS HX HQ
  iintro ⟨HS, HX, HQ⟩
  try dsimp only
  iapply (step_bind c)
  iapply (part3 W c h0 h1 h2 h3 h4 h5 h6) $$ [HK HV P0]; · iframe HK HV P0
  iintro ⟨HK, HV, P0⟩
  try dsimp only
  iapply (step_bind c)
  iapply (part4 W κ c h0 h1 h2 h3 h4 h5 h6) $$ [HS Hat Hc Hkit P0 P1]; · iframe HI Hlev HS Hat Hc Hkit P0 P1
  iintro %w4 ⟨HC, Hat, K0, T10, T20⟩
  obtain ⟨v118, v131, v132, v133⟩ := w4
  try dsimp only
  iapply (step_bind c)
  iapply (part5 W κ c h0 h1 h2 h3 h4 h5 h6) $$ [HC T10]; · iframe HI HC T10
  iintro %w5 HC
  obtain ⟨v139, v160, w1⟩ := w5
  try dsimp only
  iapply (step_bind c)
  iapply (part6 W κ c h0 h1 h2 h3 h4 h5 h6) $$ [HC T20 HK HV P2]; · iframe HI HC T20 HK HV P2
  iintro ⟨HC, HK, HV, P2⟩
  try dsimp only
  iapply (step_bind c)
  iapply (part7 W c h0 h1 h2 h3 h4 h5 h6) $$ [HV P3]; · iframe HV P3
  iintro %w7 ⟨HV, P3⟩
  try dsimp only
  iapply (step_bind c)
  iapply (part8 W κ c h0 h1 h2 h3 h4 h5 h6) $$ [HC P2 P3]; · iframe HI HC P2 P3
  iintro %w8 ⟨HC, K1, T21⟩
  obtain ⟨v242, v255, v256, v257⟩ := w8
  try dsimp only
  iapply (step_bind c)
  iapply (part9 W κ c h0 h1 h2 h3 h4 h5 h6) $$ [HC T21 HK HV]; · iframe HI HC T21 HK HV
  iintro %v263 ⟨HC, HK, HV⟩
  try dsimp only
  iapply (step_bind c)
  iapply (part10 W c h0 h1 h2 h3 h4 h5 h6) $$ [HK HV P4 P5]; · iframe HK HV P4 P5
  iintro %w10 ⟨HK, HV, P4, P5⟩
  try dsimp only
  iapply (step_bind c)
  iapply (part11 W κ c h0 h1 h2 h3 h4 h5 h6) $$ [HC P4 P5]; · iframe HI HC P4 P5
  iintro %w11 ⟨HC, K2, T12, T22⟩
  try dsimp only
  iapply (step_bind c)
  iapply (part12 W κ c h0 h1 h2 h3 h4 h5 h6) $$ [HC T12 T22 HK]; · iframe HI HC T12 T22 HK
  iintro %v366 ⟨HC, HK⟩
  try dsimp only
  iapply (step_bind c)
  iapply (part13 W c h0 h1 h2 h3 h4 h5 h6) $$ [HK HV P6 P7]; · iframe HK HV P6 P7
  iintro %w13 ⟨HK, HV, P6, P7⟩
  try dsimp only
  iapply (step_bind c)
  iapply (part14 W κ c h0 h1 h2 h3 h4 h5 h6) $$ [HC P6 P7]; · iframe HI HC P6 P7
  iintro %w14 ⟨HC, K3, T13, T23⟩
  obtain ⟨v427, v448⟩ := w14
  try dsimp only
  iapply (step_bind c)
  iapply (part15 W κ c h0 h1 h2 h3 h4 h5 h6) $$ [HC T13]; · iframe HI HC T13
  iintro %w15 HC
  try dsimp only
  iapply (step_bind c)
  iapply (part16 W κ c h0 h1 h2 h3 h4 h5 h6) $$ [HC T23 HO HA K0 K1 K2 K3]; · iframe HI HC T23 HO HA K0 K1 K2 K3
  iintro ⟨HC, HO, HA, K0, K1, K2, K3⟩
  try dsimp only
  ihave HR := (to_receive c) $$ [HC Hrk]; · iframe HC Hrk
  icases HR with ⟨HR, Hsc⟩
  iapply (step_bind c)
  iapply (part17 W κ c h0 h1 h2 h3 h4 h5 h6) $$ [HR HA]; · iframe HI HR HA
  iintro %w17 ⟨HR, HA, R10, R11⟩
  try dsimp only
  iapply (step_bind c)
  iapply (part18 W κ c h0 h1 h2 h3 h4 h5 h6) $$ [HR HO]; · iframe HI HR HO
  iintro ⟨HR, HO, R12, R13⟩
  try dsimp only
  iapply (step_bind c)
  iapply (part19 W c h0 h1 h2 h3 h4 h5 h6) $$ [HA R10 R11 R12 R13]; · iframe HA R10 R11 R12 R13
  iintro %w19 ⟨HA, R10, R11, R12, R13⟩
  try dsimp only
  iapply (step_bind c)
  iapply (part20 W κ c h0 h1 h2 h3 h4 h5 h6) $$ [HR]; · iframe HI HR
  iintro %w20 ⟨HR, R30, R31, R32⟩
  try dsimp only
  iapply (step_bind c)
  iapply (part21 W κ c h0 h1 h2 h3 h4 h5 h6) $$ [HR HO HA R30 R31]; · iframe HI HR HO HA R30 R31
  iintro ⟨HR, HO, HA, R30, R31, R33⟩
  try dsimp only
  iapply (step_bind c)
  iapply (part22 W κ c h0 h1 h2 h3 h4 h5 h6) $$ [HR HA R32 R33]; · iframe HI HR HA R32 R33
  iintro %w22 ⟨HR, HA, R32, R33, R20⟩
  try dsimp only
  iapply (step_bind c)
  iapply (part23 W κ c h0 h1 h2 h3 h4 h5 h6) $$ [HR]; · iframe HI HR
  iintro %w23 ⟨HR, R21, R22, R23⟩
  obtain ⟨v671, v672, v673, w2⟩ := w23
  try dsimp only
  iapply (step_bind c)
  iapply (part24 W c h0 h1 h2 h3 h4 h5 h6) $$ [HO HA R20 R21 R22 R23]; · iframe HO HA R20 R21 R22 R23
  iintro %w24 ⟨HO, HA, R20, R21, R22, R23⟩
  try dsimp only
  ihave HD := (to_drain c) $$ [HR Hsa Hsc]; · iframe HR Hsa Hsc
  icases HD with ⟨HD, Hrv⟩
  iapply (step_bind c)
  iapply (part25 W κ c h0 h1 h2 h3 h4 h5 h6) $$ [HD]; · iframe HI HD
  iintro %w25 ⟨HD, S00, S01, S02⟩
  try dsimp only
  iapply (step_bind c)
  iapply (part26 W κ c h0 h1 h2 h3 h4 h5 h6) $$ [HD]; · iframe HI HD
  iintro %w26 ⟨HD, S03, S10, S11⟩
  try dsimp only
  iapply (step_bind c)
  iapply (part27 W κ c h0 h1 h2 h3 h4 h5 h6) $$ [HD]; · iframe HI HD
  iintro %w27 ⟨HD, S12, S13, S20⟩
  try dsimp only
  simp only [Prog.lift, Prog.bind_op, Prog.bind_ret, Prog.pure_eq_ret]
  iapply (step_drain W κ c (2, 1) (l := [(2, 2), (2, 3)]) (acc := [(2, 0), (1, 3), (1, 2), (1, 1), (1, 0), (0, 3), (0, 2), (0, 1), (0, 0)]) rfl rfl) $$ [HD]; · iframe HI HD
  iintro ⟨HD, S21⟩
  iapply (step_ret c)
  iapply Hk; iframe

theorem body_run {a : Fin 2 → FVec F S1x256x512 .f32} :
    start W κ c a ⊢ wpB (F := F) c (cc0_body A0 h0 A1 h1 A2 h2 A3 h3 A4 h4 A5 h5 commM h6 cc0_scratch1 cc0_scratch2) (fun _ => done W c) := by
  rw [cc0_body_eq_skeleton]; unfold cc0_body_skel
  iintro H
  ihave #HI : fam.cellInvs ER (exRd W) κ $$ [H]
  · unfold start; icases H with ⟨#HI, -⟩; iexact HI
  iapply (step_bind c)
  iapply (body28 W κ c h0 h1 h2 h3 h4 h5 h6) $$ H
  iintro ⟨HX, HQ, HK, HV, HO, HA, Hat, Hrv, HD, ⟨K0, K1, K2, K3⟩, ⟨T00, T01, T02, T03, T10, T11, T12, T13, T20, T21⟩, ⟨R10, R11, R12, R13, R20, R21, R22, R23, R30, R31, R32, R33⟩⟩
  simp only [Prog.lift, Prog.bind_op, Prog.bind_ret, Prog.pure_eq_ret]
  iapply (step_drain W κ c (2, 2) (l := [(2, 3)]) (acc := [(2, 1), (2, 0), (1, 3), (1, 2), (1, 1), (1, 0), (0, 3), (0, 2), (0, 1), (0, 0)]) rfl rfl) $$ [HD]; · iframe HI HD
  iintro ⟨HD, T22⟩
  iapply (step_drain W κ c (2, 3) (l := []) (acc := [(2, 2), (2, 1), (2, 0), (1, 3), (1, 2), (1, 1), (1, 0), (0, 3), (0, 2), (0, 1), (0, 0)]) rfl rfl) $$ [HD]; · iframe HI HD
  iintro ⟨HD, T23⟩
  iapply (step_ret c)
  ihave HD := (drained c) $$ HD
  icases HD with ⟨Hsv, HO'⟩
  ihave R00 := (undeal W c 0) $$ [K0 T00 T10 T20]; · iframe K0 T00 T10 T20
  ihave R01 := (undeal W c 1) $$ [K1 T01 T11 T21]; · iframe K1 T01 T11 T21
  ihave R02 := (undeal W c 2) $$ [K2 T02 T12 T22]; · iframe K2 T02 T12 T22
  ihave R03 := (undeal W c 3) $$ [K3 T03 T13 T23]; · iframe K3 T03 T13 T23
  unfold done
  isplitl [HX]; · iexact HX
  isplitl [HQ]; · iexact HQ
  isplitl [HK]; · iexact HK
  isplitl [HV]; · iexact HV
  isplitl [HO]; · iexact HO
  isplitl [HA]; · iexact HA
  isplitl [Hat]; · iexact Hat
  isplitl [Hrv]; · iexact Hrv
  isplitl [Hsv]; · iexact Hsv
  isplitr [HO']
  · iapply (whole_buffer W c)
    iframe
  · iexact HO'

end Whole

end Cert.KernelIdeal.Own

end
-- ==== Proof.Open.lean ====
module
/- The launch of the exchange: what a device holds when its kernel call begins, piece by piece as the body takes it. The
   transfer cells are opened from their counters at zero, the communication buffer is cut into the source's heads and the
   pieces lent to the other devices, and the launch credit is dealt to the waits. -/
public import proofs.«01_k».proof.Proof.Whole

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (Above mayWait_of mem_L')
open Idealize.ShloMosaic.TalkSites (Pay tallyL tallyL_pos tallyL_append cred_tallyL Fam)
open Idealize.ShloMosaic.Transfers (shareTok shareDrop)
open Cert.KernelIdeal.Gen

variable {F : FTy → Type} [FloatOps F] [Named F]

local notation "𝕄" => MT nD τ sig ℕ (Elt F) ℕ UU ℕ

/-! ## The family's parts -/

theorem sites_eq (Φ : SemLoc sig → sProp 𝕄) :
    bigSep sites Φ = iprop((bigSep Finset.univ fun x : Ex => Φ (.dma (sendS x))) ∗ bigSep Finset.univ fun x : Ex => Φ (.dma (recvS x))) := by
  have hd : Disjoint (Finset.univ.image fun x : Ex => (.dma (sendS x) : SemLoc sig)) (Finset.univ.image fun x : Ex => (.dma (recvS x) : SemLoc sig)) := by
    rw [Finset.disjoint_left]
    intro a h h'
    obtain ⟨x, -, rfl⟩ := Finset.mem_image.mp h
    obtain ⟨y, -, e⟩ := Finset.mem_image.mp h'
    exact send_ne_recv x y e.symm
  unfold sites
  rw [bigSep_union hd, bigSep_image_of_injOn (sendS_inj.injOn), bigSep_image_of_injOn (recvS_inj.injOn)]
  rfl

theorem paid_eq (c : Dev nD) (Φ : GSem nD τ sig × ℕ × Fin 3 → sProp 𝕄) :
    bigSep (paid c) Φ = iprop((bigSep Finset.univ fun δ : Fin 3 => Φ (barCell (sh c δ), 0, δ.rev))
      ∗ (bigSep Finset.univ fun x : Ex => Φ (sendCell c x, 0, (0 : Fin 3))) ∗ bigSep Finset.univ fun x : Ex => Φ (recvCell (sh c x.1) x, 0, (0 : Fin 3))) := by
  have h1 : Function.Injective fun δ : Fin 3 => ((barCell (sh c δ), 0, δ.rev) : GSem nD τ sig × ℕ × Fin 3) := fun x y h =>
    Fin.rev_injective (Prod.ext_iff.mp (Prod.ext_iff.mp h).2).2
  have h2 : Function.Injective fun x : Ex => ((sendCell c x, 0, 0) : GSem nD τ sig × ℕ × Fin 3) := fun x y h =>
    sendS_inj (congrArg (fun p : GSem nD τ sig × ℕ × Fin 3 => p.1.2) h)
  have h3 : Function.Injective fun x : Ex => ((recvCell (sh c x.1) x, 0, 0) : GSem nD τ sig × ℕ × Fin 3) := fun x y h =>
    recvS_inj (congrArg (fun p : GSem nD τ sig × ℕ × Fin 3 => p.1.2) h)
  have d1 : Disjoint (Finset.univ.image fun δ : Fin 3 => ((barCell (sh c δ), 0, δ.rev) : GSem nD τ sig × ℕ × Fin 3))
      ((Finset.univ.image fun x : Ex => (sendCell c x, 0, (0 : Fin 3))) ∪ Finset.univ.image fun x : Ex => (recvCell (sh c x.1) x, 0, (0 : Fin 3))) := by
    rw [Finset.disjoint_left]
    intro a h h'
    obtain ⟨x, -, rfl⟩ := Finset.mem_image.mp h
    rcases Finset.mem_union.mp h' with h' | h' <;>
      (obtain ⟨y, -, e⟩ := Finset.mem_image.mp h'
       have e' := congrArg (fun p : GSem nD τ sig × ℕ × Fin 3 => p.1.2) e
       cases e')
  have d2 : Disjoint (Finset.univ.image fun x : Ex => ((sendCell c x, 0, (0 : Fin 3)) : GSem nD τ sig × ℕ × Fin 3))
      (Finset.univ.image fun x : Ex => (recvCell (sh c x.1) x, 0, (0 : Fin 3))) := by
    rw [Finset.disjoint_left]
    intro a h h'
    obtain ⟨x, -, rfl⟩ := Finset.mem_image.mp h
    obtain ⟨y, -, e⟩ := Finset.mem_image.mp h'
    exact send_ne_recv x y (congrArg (fun p : GSem nD τ sig × ℕ × Fin 3 => p.1.2) e).symm
  unfold paid
  rw [bigSep_union d1, bigSep_union d2, bigSep_image_of_injOn h1.injOn, bigSep_image_of_injOn h2.injOn, bigSep_image_of_injOn h3.injOn]
  rfl

/-! ## Opening the transfer cells -/

section Opening

variable (W : Dev nD → Valuation τ sig (Elt F)) (κ : GSem nD τ sig → ℕ) (c : Dev nD)

theorem open_one (sm : SemLoc sig) (h : sm ∈ sites) :
    iprop(fam.cellInvs ER (exRd W) κ ∗ (openTok ER ((c : Thread nD τ), sm) ∗ semVal ((c : Thread nD τ), sm) 0))
      ⊢ (iprop(|={Set.univ}=> (atPos ER ((c : Thread nD τ), sm) 0 ∅ 0 ∗ reached ER ((c : Thread nD τ), sm) 0)) : sProp 𝕄) := by
  iintro ⟨#HI, Ho, Hs⟩
  ihave Hc := (fam.cellInvs_dorm ER (exRd W) κ c (j := 0) h) $$ HI
  iapply (Rounds.cell_open ER (exRd W) (g := ((c : Thread nD τ), sm)) (κ := κ ((c : Thread nD τ), sm)) (Set.mem_univ _))
  isplitl [Hc]; · iexact Hc
  isplitl [Ho] <;> iassumption

theorem open_sites :
    iprop(fam.cellInvs ER (exRd W) κ ∗ (bigSep sites fun sm => openTok ER ((c : Thread nD τ), sm)) ∗ (bigSep sites fun sm => semVal ((c : Thread nD τ), sm) 0))
      ⊢ (iprop(|={Set.univ}=> bigSep sites fun sm => iprop(atPos ER ((c : Thread nD τ), sm) 0 ∅ 0 ∗ reached ER ((c : Thread nD τ), sm) 0)) : sProp 𝕄) := by
  rw [← bigSep_sep']
  exact (bigSep_with_persistent (R := fam.cellInvs ER (exRd W) κ) fun sm h => open_one W κ c sm h).trans (bigSep_fupd _ _)

end Opening

/-! ## The kernel's own semaphores -/

/-- The kernel call's own semaphores. -/
def osem (k : Fin 32) : SemLoc sig := .dma (⟨6 + k.val, by have := k.isLt; omega⟩ : Fin 38)

theorem osem_facts : Pipeline.OwnSemFacts spec0 osem := by decide

theorem sites_sub : sites ⊆ Finset.univ.image osem := by decide

/-- The semaphores of the call that no transfer uses. -/
abbrev spare : Finset (SemLoc sig) := Finset.univ.image osem \ sites

theorem own_split (c : Dev nD) :
    (Pipeline.ownSems0 osem c : sProp 𝕄)
      = iprop((bigSep sites fun sm => semVal ((c : Thread nD τ), sm) 0) ∗ bigSep spare fun sm => semVal ((c : Thread nD τ), sm) 0) := by
  unfold Pipeline.ownSems0
  refine Eq.trans ?_ (bigSep_sdiff_split sites_sub)
  exact (bigSep_image_of_injOn osem_facts.inj.injOn fun sm => (semVal ((c : Thread nD τ), sm) 0 : sProp 𝕄)).symm

/-! ## The communication buffer, cut -/

theorem cut (c : Dev nD) (f : CIdx → Elt F .bf16) :
    cPts c Finset.univ fullShare f ⊢ iprop((hpad (F := F) c 0 ∗ hpad c 1 ∗ hpad c 2 ∗ hpad c 3 ∗ hpad c 4 ∗ hpad c 5 ∗ hpad c 6 ∗ hpad c 7)
      ∗ bigSep Finset.univ fun x : Ex => pad (F := F) c x) := by
  have e : (cPts c Finset.univ fullShare f : sProp 𝕄)
      = iprop((bigSep Finset.univ fun k : Fin 4 => cPts c (pieceR 0 k).set fullShare f) ∗ bigSep Finset.univ fun x : Ex => cPts c (pieceR x.1.succ x.2).set fullShare f) := by
    rw [← pieces_univ]
    refine (pointsTo_biUnion (ℓ := (c : Thread nD τ).loc cc0_scratch0) (f := f) Finset.univ (fun x : Fin 4 × Fin 4 => (pieceR x.1 x.2).set) fun x _ y _ h => pieces_disj x y h).trans ?_
    rw [bigSep_univ_prod, bigSep_univ_at _ (0 : Fin 4), show (Finset.univ.erase (0 : Fin 4)) = Finset.univ.image Fin.succ from by decide,
      bigSep_image_of_injOn (Fin.succ_injective 3).injOn, bigSep_univ_prod]
  have h0 (k : Fin 4) : cPts c (pieceR 0 k).set fullShare f ⊢ iprop(hpad (F := F) c (hk k 0) ∗ hpad c (hk k 1)) := by
    have h := cPts_union c fullShare f (piece_disj k)
    rw [← piece_eq] at h
    iintro H
    ihave H := (h.1) $$ H
    icases H with ⟨H0, H1⟩
    isplitl [H0]
    · iexists f; iexact H0
    · iexists f; iexact H1
  have h1 (x : Ex) (_ : x ∈ Finset.univ) : cPts c (pieceR x.1.succ x.2).set fullShare f ⊢ pad (F := F) c x := by
    iintro H; iexists f; iexact H
  have e4 : (bigSep Finset.univ fun k : Fin 4 => cPts c (pieceR 0 k).set fullShare f : sProp 𝕄)
      = bigSepL [0, 1, 2, 3] fun k : Fin 4 => cPts c (pieceR 0 k).set fullShare f := bigSep_eq_bigSepL_of_eq (S := (Finset.univ : Finset (Fin 4))) [0, 1, 2, 3] (by decide) (by decide) _
  have e5 : (bigSep Finset.univ fun x : Ex => (cPts c (pieceR x.1.succ x.2).set fullShare f : sProp 𝕄)) ⊢ bigSep Finset.univ fun x : Ex => pad (F := F) c x := bigSep_mono h1
  rw [e, e4, sepL_cons, sepL_cons, sepL_cons, sepL_cons]
  iintro ⟨⟨A, B, C, D, -⟩, HR⟩
  ihave A := (h0 0) $$ A
  ihave B := (h0 1) $$ B
  ihave C := (h0 2) $$ C
  ihave D := (h0 3) $$ D
  icases A with ⟨A0, A1⟩
  icases B with ⟨B0, B1⟩
  icases C with ⟨C0, C1⟩
  icases D with ⟨D0, D1⟩
  isplitr [HR]
  · isplitl [A0]; · iexact A0
    isplitl [A1]; · iexact A1
    isplitl [B0]; · iexact B0
    isplitl [B1]; · iexact B1
    isplitl [C0]; · iexact C0
    isplitl [C1]; · iexact C1
    isplitl [D0]; · iexact D0
    iexact D1
  iapply e5
  iexact HR

/-! ## The launch credit -/

theorem sum_shift {A : Type} (l : List A) (e : A → Dev nD ≃ Dev nD) (f : A → Dev nD → Pay nD τ sig) :
    (∑ d, tallyL (l.map fun a => f a (e a d))) = ∑ d, tallyL (l.map fun a => f a d) := by
  induction l with
  | nil => rfl
  | cons a l ih =>
    simp only [List.map_cons, tallyL, Finset.sum_add_distrib]
    rw [ih, Equiv.sum_comp (e a) fun d => (f a d).tally]

/-- What the launch credits device `c`: three units on its barrier cell, each copy into it on that piece's cell. -/
def mine (c : Dev nD) : List (Pay nD τ sig) :=
  ([0, 1, 2] : List (Fin 3)).map (fun _ => (barCell c, 1, 1)) ++ sendOrder.map fun x => (recvCell c x, 2, N)

theorem sepL_map {I J : Type} (g : I → J) (l : List I) (Φ : J → sProp 𝕄) : bigSepL (l.map g) Φ = bigSepL l fun i => Φ (g i) := by
  induction l with
  | nil => rfl
  | cons a l ih => rw [List.map_cons, sepL_cons, sepL_cons, ih]

theorem due_sum : (∑ d, tallyL (due d)) = ∑ d, tallyL (mine d) := by
  unfold due mine barDue copyDue
  simp only [tallyL_append, Finset.sum_add_distrib]
  exact congrArg₂ (· + ·) (sum_shift [0, 1, 2] shE (fun _ d => (barCell d, 1, 1))) (sum_shift sendOrder (fun x => shE x.1) (fun x d => (recvCell d x, 2, N)))

theorem credits (c : Dev nD) :
    (Pipeline.launchCred (fun d => tallyL (due d)) c : sProp 𝕄)
      ⊢ iprop(cred (tallyAt (barCell c) 1 3) ∗ bigSep Finset.univ fun x : Ex => cred (tallyAt (recvCell c x) 2 N)) := by
  rw [Pipeline.launchCred_of_sum (fun d => tallyL (due d)) (fun d => tallyL (mine d)) due_sum ?h c]
  case h =>
    intro d g h
    obtain ⟨i, hi⟩ := DFunLike.ne_iff.mp h
    obtain ⟨y, hy, rfl, -⟩ := tallyL_pos (Nat.pos_of_ne_zero hi)
    unfold mine at hy
    rcases List.mem_append.mp hy with hy | hy <;> (obtain ⟨x, -, rfl⟩ := List.mem_map.mp hy; rfl)
  have e1 : tallyL (([0, 1, 2] : List (Fin 3)).map fun _ => ((barCell c, 1, 1) : Pay nD τ sig)) = tallyAt (barCell c) 1 3 := by
    show tallyAt (barCell c) 1 1 + (tallyAt (barCell c) 1 1 + (tallyAt (barCell c) 1 1 + 0)) = _
    rw [add_zero, tallyAt_add, tallyAt_add]
  have e2 : (cred (tallyL (sendOrder.map fun x => ((recvCell c x, 2, N) : Pay nD τ sig))) : sProp 𝕄)
      = bigSep Finset.univ fun x : Ex => cred (tallyAt (recvCell c x) 2 N) := by
    rw [cred_tallyL, sepL_map, sendL]
  unfold mine
  rw [tallyL_append, e1]
  refine (cred_add _ _).1.trans ?_
  rw [e2]

end Cert.KernelIdeal.Own

end
-- ==== Proof.Region.lean ====
module
/- The kernel call as a region of the program: what it is entered with on a device, its body as a whole, what it is left with. -/
public import proofs.«01_k».proof.Proof.Open
public import proofs.«01_k».proof.Proof.Gen.KernelIdeal.Regions
public import proofs.«01_k».proof.Proof.Gen.KernelIdeal.Points

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (Above mayWait_of mem_L')
open Idealize.ShloMosaic.TalkSites (Pay tallyL tallyL_pos tallyL_append cred_tallyL Fam)
open Idealize.ShloMosaic.Transfers (shareTok shareDrop)
open Idealize.ShloMosaic.Pipeline (Dat Cfg Window BodyObligation RegionSeg)
open Cert.KernelIdeal.Gen

variable {F : FTy → Type} [FloatOps F] [Named F]

local notation "𝕄" => MT nD τ sig ℕ (Elt F) ℕ UU ℕ

/-! ## From the launch to the body -/

section State

variable (W : Dev nD → Valuation τ sig (Elt F)) (c : Dev nD)

/-- What the launch keeps for the call. -/
def kept : sProp 𝕄 := iprop(fam.launched ER (exRd W) (fun _ => Finset.univ) c ∗ Pipeline.launchCred (fun d => tallyL (due d)) c)

/-- What the call passes on: its place at the barrier cell, after the round. -/
def passed : sProp 𝕄 := fam.barPos ER (exRd W) c 1 ∅

/-- The call's resources, opened. -/
def opened : sProp 𝕄 :=
  iprop(∃ κ, fam.cellInvs ER (exRd W) κ ∗ levAts (SiteBlocks.L K) SiteBlocks.lv ∗ atPos ER (barCell c) 0 ∅ 0
    ∗ (bigSep Finset.univ fun δ : Fin 3 => iprop(dutyTok ER (barCell (sh c δ)) 0 δ.rev ∗ reached ER (barCell (sh c δ)) 0))
    ∗ cred (tallyAt (barCell c) 1 3) ∗ bigSep Finset.univ (kit0 (F := F) c) ∗ bigSep Finset.univ (rkit (F := F) c)
    ∗ (bigSep Finset.univ fun x : Ex => atPos ER (sendCell c x) 0 ∅ 0) ∗ (bigSep Finset.univ fun x : Ex => reached ER (recvCell c x) 0)
    ∗ bigSep spare fun sm => semVal ((c : Thread nD τ), sm) 0)

theorem bars :
    iprop((bigSep Finset.univ fun n : Dev nD => reached ER (barCell n) 0) ∗ bigSep Finset.univ fun δ : Fin 3 => dutyTok ER (barCell (sh c δ)) 0 δ.rev)
      ⊢ (bigSep Finset.univ fun δ : Fin 3 => iprop(dutyTok ER (barCell (sh c δ)) 0 δ.rev ∗ reached ER (barCell (sh c δ)) 0) : sProp 𝕄) := by
  refine bigSep_with_persistent (R := (bigSep Finset.univ fun n : Dev nD => reached ER (barCell n) 0 : sProp 𝕄)) fun δ _ => ?_
  have h : (bigSep Finset.univ fun n : Dev nD => (reached ER (barCell n) 0 : sProp 𝕄)) ⊢ reached ER (barCell (sh c δ)) 0 := bigSep_elim (Finset.mem_univ (sh c δ))
  iintro ⟨#H, Ht⟩
  isplitl [Ht]; · iexact Ht
  iapply h; iexact H

theorem kits :
    iprop((bigSep Finset.univ fun x : Ex => dutyTok ER (sendCell c x) 0 0) ∗ (bigSep Finset.univ fun x : Ex => reached ER (sendCell c x) 0)
        ∗ bigSep Finset.univ fun x : Ex => dutyTok ER (recvCell (sh c x.1) x) 0 0)
      ⊢ (bigSep Finset.univ (kit0 (F := F) c) : sProp 𝕄) := by
  rw [← bigSep_sep', ← bigSep_sep']
  exact .rfl

theorem rkits :
    iprop((bigSep Finset.univ fun x : Ex => atPos ER (recvCell c x) 0 ∅ 0) ∗ bigSep Finset.univ fun x : Ex => cred (tallyAt (recvCell c x) 2 N))
      ⊢ (bigSep Finset.univ (rkit (F := F) c) : sProp 𝕄) := by
  rw [← bigSep_sep']
  exact .rfl

theorem fin1 (Φ : Fin 1 → sProp 𝕄) : (bigSep Finset.univ Φ : sProp 𝕄) = Φ 0 := by
  rw [show (Finset.univ : Finset (Fin 1)) = {0} from by decide, bigSep_singleton]

theorem opened_sites (Φ Ψ : SemLoc sig → sProp 𝕄) :
    bigSep sites (fun sm => iprop(Φ sm ∗ Ψ sm)) = iprop(((bigSep Finset.univ fun x : Ex => Φ (.dma (sendS x))) ∗ bigSep Finset.univ fun x : Ex => Ψ (.dma (sendS x)))
      ∗ ((bigSep Finset.univ fun x : Ex => Φ (.dma (recvS x))) ∗ bigSep Finset.univ fun x : Ex => Ψ (.dma (recvS x)))) := by
  rw [sites_eq, bigSep_sep', bigSep_sep']

theorem paid_toks : (bigSep (fam.toks c 0) (fun x => dutyTok ER x.1 x.2.1 x.2.2) : sProp 𝕄)
    = iprop((bigSep Finset.univ fun δ : Fin 3 => dutyTok ER (barCell (sh c δ)) 0 δ.rev)
      ∗ (bigSep Finset.univ fun x : Ex => dutyTok ER (sendCell c x) 0 0) ∗ bigSep Finset.univ fun x : Ex => dutyTok ER (recvCell (sh c x.1) x) 0 0) := paid_eq c _

theorem opening : iprop(kept W c ∗ Pipeline.ownSems0 osem c ∗ levAts (SiteBlocks.L K) SiteBlocks.lv) ⊢ (|={Set.univ}=> opened W c : sProp 𝕄) := by
  rw [own_split]
  unfold kept opened Fam.launched Fam.barPos
  rw [fin1]
  unfold Fam.rides
  rw [paid_toks]
  iintro ⟨⟨⟨⟨⟨%κ, #HI⟩, Hat, #Hr⟩, -, Hop, Htb, Hts, Htr⟩, Hc⟩, ⟨Hs, Hsp⟩, #Hlev⟩
  ihave Hc := (credits c) $$ Hc
  icases Hc with ⟨Hcb, Hcr⟩
  imod (open_sites W κ c) $$ [Hop Hs] with Ho
  · isplitr; · iexact HI
    isplitl [Hop]; · iexact Hop
    iexact Hs
  ihave Ho := (Entails.of_eq (opened_sites (fun sm => atPos ER ((c : Thread nD τ), sm) 0 ∅ 0) (fun sm => reached ER ((c : Thread nD τ), sm) 0))) $$ Ho
  icases Ho with ⟨⟨Has, Hrs⟩, ⟨Har, Hrr⟩⟩
  imodintro
  iexists κ
  isplitr; · iexact HI
  isplitr; · iexact Hlev
  isplitl [Hat]; · iexact Hat
  isplitl [Htb]
  · iapply (bars c)
    isplitr; · iexact Hr
    iexact Htb
  isplitl [Hcb]; · iexact Hcb
  isplitl [Hts Hrs Htr]
  · iapply (kits c)
    isplitl [Hts]; · iexact Hts
    isplitl [Hrs] <;> iassumption
  isplitl [Har Hcr]
  · iapply (rkits c)
    isplitl [Har] <;> iassumption
  isplitl [Has]; · iexact Has
  isplitl [Hrr]; · iexact Hrr
  iexact Hsp

/-- A device's own pieces, as the units it sends hand them over. -/
theorem give :
    iprop((bigSep Finset.univ fun x : Ex => pad (F := F) c x) ∗ bigSep Finset.univ fun x : Ex => reached ER (recvCell c x) 0)
      ⊢ (bigSep Finset.univ fun δ : Fin 3 => barPay (F := F) (sh c δ) δ.rev : sProp 𝕄) := by
  let Ψ : Fin 3 → sProp 𝕄 := fun d => bigSep Finset.univ fun k : Fin 4 => iprop(pad (F := F) c (d, k) ∗ reached ER (recvCell c (d, k)) 0)
  have e (δ : Fin 3) : (barPay (F := F) (sh c δ) δ.rev : sProp 𝕄) = Ψ (Fin.revPerm δ) := by
    show barPay (F := F) (sh c δ) δ.rev = Ψ δ.rev
    unfold barPay; rw [sh_rev]
  rw [← bigSep_sep', bigSep_univ_prod, bigSep_congr fun δ _ => e δ]
  exact Entails.of_eq (bigSep_univ_equiv Fin.revPerm Ψ)

theorem signals (κ : GSem nD τ sig → ℕ) :
    iprop((bigSep Finset.univ fun δ : Fin 3 => iprop(dutyTok ER (barCell (sh c δ)) 0 δ.rev ∗ reached ER (barCell (sh c δ)) 0))
        ∗ (bigSep Finset.univ fun δ : Fin 3 => barPay (F := F) (sh c δ) δ.rev) ∗ ∃ Wt, owes c (tallyL (due c)) Wt)
      ⊢ (signalling (F := F) c [0, 1, 2] : sProp 𝕄) := by
  unfold signalling
  rw [fin3, fin3, sepL_cons, sepL_cons, sepL_cons]
  iintro ⟨⟨⟨A0, A1⟩, ⟨B0, B1⟩, ⟨C0, C1⟩, -⟩, ⟨A2, B2, C2, -⟩, HO⟩
  isplitr [HO]
  · isplitl [A0 A1 A2]
    · isplitl [A0]; · iexact A0
      isplitl [A1] <;> iassumption
    isplitl [B0 B1 B2]
    · isplitl [B0]; · iexact B0
      isplitl [B1] <;> iassumption
    isplitl [C0 C1 C2]
    · isplitl [C0]; · iexact C0
      isplitl [C1] <;> iassumption
    iempintro
  iexact HO

theorem kit0L : (bigSep Finset.univ (kit0 (F := F) c) : sProp 𝕄) ⊢ bigSepL sendOrder (kit0 (F := F) c) := Entails.of_eq (sendL _)

/-- The windows, as the body finds them and as it leaves them. -/
def wins (a : Fin 2 → FVec F S1x256x512 .f32) : sProp 𝕄 := iprop(winX W c ∗ winQ W c ∗ winK W c ∗ winV W c ∗ winO W c ∗ winOut c a)

/-- Before the body, but for the windows and the dues; after it. -/
def before : sProp 𝕄 := iprop((∃ f : CIdx → Elt F .bf16, cPts c Finset.univ fullShare f) ∗ (∃ r, prngReg c r) ∗ opened W c)
@[inherit_doc before] def after : sProp 𝕄 :=
  iprop((∃ f : CIdx → Elt F .bf16, cPts c Finset.univ fullShare f) ∗ (∃ r, prngReg c r) ∗ Pipeline.ownSems0 osem c ∗ passed W c)

theorem own_join :
    iprop((bigSep Finset.univ fun x : Ex => semVal (recvCell c x) 0) ∗ (bigSep Finset.univ fun x : Ex => semVal (sendCell c x) 0)
        ∗ bigSep spare fun sm => semVal ((c : Thread nD τ), sm) 0)
      ⊢ (Pipeline.ownSems0 osem c : sProp 𝕄) := by
  rw [own_split, sites_eq]
  iintro ⟨Hr, Hs, Hsp⟩
  isplitl [Hr Hs]
  · isplitl [Hs] <;> iassumption
  iexact Hsp

theorem body_whole (h0 h1 h2 h3 h4 h5 h6) (κ : GSem nD τ sig → ℕ) (a : Fin 2 → FVec F S1x256x512 .f32) :
    iprop(start W κ c a ∗ (fam.cellInvs ER (exRd W) κ ∗ (∃ r, prngReg c r) ∗ bigSep spare fun sm => semVal ((c : Thread nD τ), sm) 0))
      ⊢ wpB (F := F) c (cc0_body A0 h0 A1 h1 A2 h2 A3 h3 A4 h4 A5 h5 commM h6 cc0_scratch1 cc0_scratch2)
          (fun _ => iprop(wins W c (acc3 W c) ∗ after W c ∗ ∃ Wt, owes c 0 Wt)) := by
  refine (sep_mono (body_run W κ c h0 h1 h2 h3 h4 h5 h6 (a := a)) .rfl).trans ?_
  refine (wp_frame_r _ _ _).trans (wp_mono _ _ _ fun _ => ?_)
  unfold done after passed wins Fam.barPos
  rw [bigSep_empty]
  iintro ⟨⟨HX, HQ, HK, HV, HO, HA, Hat, Hr, Hs, Hc, Ho⟩, #HI, Hp, Hsp⟩
  isplitl [HX HQ HK HV HO HA]
  · isplitl [HX]; · iexact HX
    isplitl [HQ]; · iexact HQ
    isplitl [HK]; · iexact HK
    isplitl [HV]; · iexact HV
    isplitl [HO] <;> iassumption
  isplitr [Ho]
  · isplitl [Hc]; · iexists _; iexact Hc
    isplitl [Hp]; · iexact Hp
    isplitl [Hr Hs Hsp]
    · iapply (own_join c)
      isplitl [Hr]; · iexact Hr
      isplitl [Hs] <;> iassumption
    isplitr; · iexists κ; iexact HI
    isplitl [Hat]; · iexact Hat
    iempintro
  iexact Ho

theorem starting (a : Fin 2 → FVec F S1x256x512 .f32) :
    iprop(before W c ∗ (∃ Wt, owes c (tallyL (due c)) Wt) ∗ wins W c a)
      ⊢ (iprop(∃ κ, start W κ c a ∗ (fam.cellInvs ER (exRd W) κ ∗ (∃ r, prngReg c r) ∗ bigSep spare fun sm => semVal ((c : Thread nD τ), sm) 0)) : sProp 𝕄) := by
  unfold before opened start wins
  iintro ⟨⟨⟨%f, Hf⟩, Hp, %κ, #HI, #Hlev, Hat, Hb, Hcb, Hk, Hrk, Has, Hrr, Hsp⟩, Ho, HX, HQ, HK, HV, HO, HA⟩
  ihave Hf := (cut c f) $$ Hf
  icases Hf with ⟨Hh, Hpad⟩
  ihave Hg := (give c) $$ [Hpad Hrr]
  · isplitl [Hpad] <;> iassumption
  iexists κ
  isplitr [Hp Hsp]
  · isplitr; · iexact HI
    isplitr; · iexact Hlev
    isplitl [Hb Hg Ho]
    · iapply (signals c κ)
      isplitl [Hb]; · iexact Hb
      isplitl [Hg] <;> iassumption
    isplitl [Hat]; · iexact Hat
    isplitl [Hcb]; · iexact Hcb
    isplitl [Hk]; · iapply (kit0L c); iexact Hk
    isplitl [Hrk]; · iexact Hrk
    isplitl [Has]; · iexact Has
    isplitl [Hh]; · iexact Hh
    isplitl [HX]; · iexact HX
    isplitl [HQ]; · iexact HQ
    isplitl [HK]; · iexact HK
    isplitl [HV]; · iexact HV
    isplitl [HO] <;> iassumption
  isplitr; · iexact HI
  isplitl [Hp] <;> iassumption

theorem body_all (h0 h1 h2 h3 h4 h5 h6) (a : Fin 2 → FVec F S1x256x512 .f32) :
    iprop(before W c ∗ (∃ Wt, owes c (tallyL (due c)) Wt) ∗ wins W c a)
      ⊢ wpB (F := F) c (cc0_body A0 h0 A1 h1 A2 h2 A3 h3 A4 h4 A5 h5 commM h6 cc0_scratch1 cc0_scratch2)
          (fun _ => iprop(wins W c (acc3 W c) ∗ after W c ∗ ∃ Wt, owes c 0 Wt)) := by
  refine (starting W c a).trans ?_
  iintro ⟨%κ, H⟩
  iapply (body_whole W c h0 h1 h2 h3 h4 h5 h6 κ a)
  iexact H

end State

end Cert.KernelIdeal.Own

end
-- ==== Proof.Run.lean ====
module
/- The program's run: from any memory with zero counters every weakly fair execution ends, with the arguments as they were,
   the counters at zero, and on each device the output that the kernel body computes from the host operations' results. -/
public import proofs.«01_k».proof.Proof.Region

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (Above mayWait_of mem_L')
open Idealize.ShloMosaic.TalkSites (Pay tallyL tallyL_pos tallyL_append cred_tallyL Fam)
open Idealize.ShloMosaic.Pipeline (Dat Cfg Window BodyObligation RegionSeg)
open Cert.KernelIdeal.Gen

variable {F : FTy → Type} [FloatOps F] [Named F]

local notation "𝕄" => MT nD τ sig ℕ (Elt F) ℕ UU ℕ

variable (m : (ℓ : Loc nD τ sig) → Buf (Elt F) ℓ)

/-- The output of device `c`. -/
def outC (c : Dev nD) : OIdx → Elt F .f32 := obuf (acc3 (V1 m) c)

/-- What the call leaves in the output's buffer. -/
def outs : Outs (F := F) := fun _ r c => if h : r = main_v16 then h ▸ outC m c else V1 m c r

theorem outs_eq (c : Dev nD) : outs m 2 main_v16 c = outC m c := by unfold outs; rw [dif_pos rfl]

/-! ## The proof data -/

def pdats (p : Fin 1) (c : Dev nD) : Dat τ (Elt F) ℕ ℕ UU ℕ (cfgs p) c :=
  match p with
  | ⟨0, _⟩ =>
    { A := fun w => V1 m c (Proc.devRef .tc (Pipeline.arrRef spec0 w))
      after := fun w _ => match w with
        | ⟨0, _⟩ => xIn (V1 m) c
        | ⟨1, _⟩ => qIn (V1 m) c
        | ⟨2, _⟩ => kIn (V1 m) c
        | ⟨3, _⟩ => vIn (V1 m) c
        | ⟨4, _⟩ => oIn (V1 m) c
        | ⟨5, _⟩ => outC m c
      Φ := fun t => match t with
        | ⟨0, _⟩ => before (V1 m) c
        | ⟨_ + 1, _⟩ => after (V1 m) c
      q := fun _ => fullShare
      owed := fun t => match t with
        | ⟨0, _⟩ => tallyL (due c)
        | ⟨_ + 1, _⟩ => 0 }

theorem owed_first (c : Dev nD) : (pdats m 0 c).owed t0_0.castSucc = tallyL (due c) := rfl
theorem owed_after (c : Dev nD) : (pdats m 0 c).owed t0_0.succ = 0 := rfl

theorem owes_intro (c : Dev nD) (t) (O : CellTallies nD τ sig ℕ) (h : (pdats m 0 c).owed t = O) :
    (iprop(∃ Wt, owes c O Wt) : sProp 𝕄) ⊢ (pdats m 0 c).owesAt 0 t := by
  subst h
  unfold Dat.owesAt Pipeline.owesWithin Dat.bound
  iintro ⟨%Wt, HO⟩
  iexists Wt
  isplitr; · ipureintro; exact fun _ _ => Or.inl trivial
  iexact HO
theorem owes_elim (c : Dev nD) (t) (O : CellTallies nD τ sig ℕ) (h : (pdats m 0 c).owed t = O) :
    (pdats m 0 c).owesAt 0 t ⊢ (iprop(∃ Wt, owes c O Wt) : sProp 𝕄) := by
  subst h
  unfold Dat.owesAt Pipeline.owesWithin
  iintro ⟨%Wt, -, HO⟩
  iexists Wt
  iexact HO

theorem share_eq (c : Dev nD) (w) : (pdats m 0 c).share w = fullShare := by unfold Dat.share; split <;> rfl

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_intro (c : Dev nD) {b : Ref sig .tc} {X : b.ty.Contents (Elt F)} : (((c : Thread nD τ).loc b) ↦{fullShare} X : sProp 𝕄) ⊢ stg c b X := by
  iintro H; iexists X
  isplitr; · ipureintro; rfl
  iexact H

theorem blk0 (t : Fin grid0.N) (f : main_arg0.ty.Contents (Elt F)) : (win0_0.blk t).view.read (Elt F) f = f :=
  Memref.read_access_unit_zero (Elt F) main_arg0 (funext fun a => Nat.zero_mul _) _ f
theorem blk1 (t : Fin grid0.N) (f : main_v9.ty.Contents (Elt F)) : (win0_1.blk t).view.read (Elt F) f = f :=
  Memref.read_access_unit_zero (Elt F) main_v9 (funext fun a => Nat.zero_mul _) _ f
theorem blk2 (t : Fin grid0.N) (f : main_v11.ty.Contents (Elt F)) : (win0_2.blk t).view.read (Elt F) f = f :=
  Memref.read_access_unit_zero (Elt F) main_v11 (funext fun a => Nat.zero_mul _) _ f
theorem blk3 (t : Fin grid0.N) (f : main_v15.ty.Contents (Elt F)) : (win0_3.blk t).view.read (Elt F) f = f :=
  Memref.read_access_unit_zero (Elt F) main_v15 (funext fun a => Nat.zero_mul _) _ f
theorem blk4 (t : Fin grid0.N) (f : main_arg4.ty.Contents (Elt F)) : (win0_4.blk t).view.read (Elt F) f = f :=
  Memref.read_access_unit_zero (Elt F) main_arg4 (funext fun a => Nat.zero_mul _) _ f
theorem blk5 (t : Fin grid0.N) (f : main_v16.ty.Contents (Elt F)) : (win0_5.blk t).view.read (Elt F) f = f :=
  Memref.read_access_unit_zero (Elt F) main_v16 (funext fun a => Nat.zero_mul _) _ f

theorem set_whole_rect (b : Ref sig .tc) {off : Fin b.ty.shape.rank → Nat} (h : off = fun _ => 0) (inb : ∀ a, off a + b.ty.shape.size a ≤ b.ty.shape.size a) :
    ((Memref.whole b).access (Rect.unit off b.ty.shape.size inb) : View sig .tc _ _ _).set = Finset.univ := by
  subst h; exact Memref.set_access_whole b

/-! ## The body obligation -/

section Body

variable (c : Dev nD)

def pre : sProp 𝕄 :=
  iprop(before (V1 m) c ∗ (pdats m 0 c).owesAt 0 t0_0.castSucc
    ∗ (∃ d, stg c cc0_stg0_0 ((pdats m 0 c).before (0 : Fin 6) t0_0 d))
    ∗ (∃ d, stg c cc0_stg1_0 ((pdats m 0 c).before (1 : Fin 6) t0_0 d))
    ∗ (∃ d, stg c cc0_stg2_0 ((pdats m 0 c).before (2 : Fin 6) t0_0 d))
    ∗ (∃ d, stg c cc0_stg3_0 ((pdats m 0 c).before (3 : Fin 6) t0_0 d))
    ∗ (∃ d, stg c cc0_stg4_0 ((pdats m 0 c).before (4 : Fin 6) t0_0 d))
    ∗ (∃ d, stg c cc0_stg5_0 ((pdats m 0 c).before (5 : Fin 6) t0_0 d)))

def post : sProp 𝕄 :=
  iprop(after (V1 m) c ∗ (pdats m 0 c).owesAt 0 t0_0.succ
    ∗ stg c cc0_stg0_0 (xIn (V1 m) c) ∗ stg c cc0_stg1_0 (qIn (V1 m) c) ∗ stg c cc0_stg2_0 (kIn (V1 m) c)
    ∗ stg c cc0_stg3_0 (vIn (V1 m) c) ∗ stg c cc0_stg4_0 (oIn (V1 m) c) ∗ stg c cc0_stg5_0 (outC m c))

theorem pre_wins : pre m c ⊢ (iprop(∃ a, before (V1 m) c ∗ (∃ Wt, owes c (tallyL (due c)) Wt) ∗ wins (V1 m) c a) : sProp 𝕄) := by
  unfold pre wins
  iintro ⟨HB, HO, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩⟩
  have x0 : g0 = xIn (V1 m) c := by rw [e0]; unfold Dat.before; rw [if_pos (fetch0_0 t0_0)]; exact Eq.trans rfl (blk0 (F := F) t0_0 (xIn (V1 m) c))
  have x1 : g1 = qIn (V1 m) c := by rw [e1]; unfold Dat.before; rw [if_pos (fetch0_1 t0_0)]; exact Eq.trans rfl (blk1 (F := F) t0_0 (qIn (V1 m) c))
  have x2 : g2 = kIn (V1 m) c := by rw [e2]; unfold Dat.before; rw [if_pos (fetch0_2 t0_0)]; exact Eq.trans rfl (blk2 (F := F) t0_0 (kIn (V1 m) c))
  have x3 : g3 = vIn (V1 m) c := by rw [e3]; unfold Dat.before; rw [if_pos (fetch0_3 t0_0)]; exact Eq.trans rfl (blk3 (F := F) t0_0 (vIn (V1 m) c))
  have x4 : g4 = oIn (V1 m) c := by rw [e4]; unfold Dat.before; rw [if_pos (fetch0_4 t0_0)]; exact Eq.trans rfl (blk4 (F := F) t0_0 (oIn (V1 m) c))
  obtain ⟨a, x5⟩ := obuf_of (F := F) g5
  subst x0 x1 x2 x3 x4 x5
  ihave HO := (owes_elim m c _ _ (owed_first m c)) $$ HO
  iexists a
  isplitl [HB]; · iexact HB
  isplitl [HO]; · iexact HO
  isplitl [H0]; · iexact H0
  isplitl [H1]; · iexact H1
  isplitl [H2]; · iexact H2
  isplitl [H3]; · iexact H3
  isplitl [H4]; · iexact H4
  iexact H5

theorem wins_post : (iprop(wins (V1 m) c (acc3 (V1 m) c) ∗ after (V1 m) c ∗ ∃ Wt, owes c 0 Wt) : sProp 𝕄) ⊢ post m c := by
  unfold post wins
  iintro ⟨⟨H0, H1, H2, H3, H4, H5⟩, HA, HO⟩
  ihave HO := (owes_intro m c _ _ (owed_after m c)) $$ HO
  isplitl [HA]; · iexact HA
  isplitl [HO]; · iexact HO
  isplitl [H0]; · (iapply (stg_intro c); iexact H0)
  isplitl [H1]; · (iapply (stg_intro c); iexact H1)
  isplitl [H2]; · (iapply (stg_intro c); iexact H2)
  isplitl [H3]; · (iapply (stg_intro c); iexact H3)
  isplitl [H4]; · (iapply (stg_intro c); iexact H4)
  iapply (stg_intro c); iexact H5

theorem body_at : pre m c ⊢ wpB (F := F) c (cc0_body A0 (Memref.isWhole_whole _) A1 (Memref.isWhole_whole _) A2 (Memref.isWhole_whole _) A3 (Memref.isWhole_whole _)
    A4 (Memref.isWhole_whole _) A5 (Memref.isWhole_whole _) commM (Memref.isWhole_whole _) cc0_scratch1 cc0_scratch2) (fun _ => post m c) := by
  refine (pre_wins m c).trans ?_
  iintro ⟨%a, H⟩
  iapply ((body_all (V1 m) c (Memref.isWhole_whole _) (Memref.isWhole_whole _) (Memref.isWhole_whole _) (Memref.isWhole_whole _) (Memref.isWhole_whole _)
    (Memref.isWhole_whole _) (Memref.isWhole_whole _) a).trans (wp_mono _ _ _ fun _ => wins_post m c))
  iexact H

set_option maxRecDepth 100000 in
theorem body_obligation : BodyObligation (pdats m 0 c) (defs₀ (F := F)) 𝒱₀ 0 Set.univ := fun t => by
  rw [fin_N0 t]
  rw [bigSep_W0, bigSep_W0]
  simp only [owns_whole]
  exact body_at m c

end Body

/-! ## The region -/

/-- The unscoped buffers after the call. -/
abbrev VE (c : Dev nD) : Valuation τ sig (Elt F) := V2 m (outs m) c

theorem VE_out (c : Dev nD) : VE m c main_v16 = outC m c :=
  (Function.update_self (Proc.devRef .tc main_v16 : DevRef τ sig) _ (V1 m c)).trans (outs_eq m c)

/-- The unscoped buffers that are no operand of the call. -/
abbrev restRefs : Finset (DevRef τ sig) := Pipeline.ucRefs τ sig \ Pipeline.arrRefs spec0

theorem arr_sub : Pipeline.arrRefs (τ := τ) spec0 ⊆ Pipeline.ucRefs τ sig := Pipeline.arrRefs_sub_ucRefs spec0 (by decide)

theorem rest_same (c : Dev nD) (b : DevRef τ sig) (h : b ∈ restRefs \ ∅) : VE m c b = V1 m c b := by
  refine Function.update_of_ne (fun e => ?_) _ _
  rw [Finset.sdiff_empty, e] at h
  exact (Finset.mem_sdiff.mp h).2 (by decide)

theorem entering (c : Dev nD) :
    iprop(Pipeline.scopedRest spec0 c ∗ (∃ r, prngReg c r) ∗ StableHlo.held (c.tc : Thread nD τ) ∅ (V1 m c) ∗ opened (V1 m) c) ⊢ (before (V1 m) c : sProp 𝕄) := by
  rw [scopedRest0_eq]
  unfold before
  iintro ⟨Hs, Hp, -, Ho⟩
  isplitl [Hs]; · iexact Hs
  isplitl [Hp] <;> iassumption

theorem leaving (c : Dev nD) :
    (after (V1 m) c : sProp 𝕄) ⊢ iprop(Pipeline.scopedRest spec0 c ∗ (∃ r, prngReg c r) ∗ StableHlo.held (c.tc : Thread nD τ) ∅ (VE m c) ∗ Pipeline.ownSems0 osem c ∗ passed (V1 m) c) := by
  rw [scopedRest0_eq]
  unfold after StableHlo.held
  rw [bigSep_empty]
  iintro ⟨Hs, Hp, Ho, Hb⟩
  isplitl [Hs]; · iexact Hs
  isplitl [Hp]; · iexact Hp
  isplitr; · iempintro
  isplitl [Ho] <;> iassumption

theorem cutD (c : Dev nD) (t : Fin (grid0.N + 1)) (g : GSem nD τ sig) (i : ℕ) (h : 0 < (pdats m 0 c).owed t g i) :
    i ∈ SiteBlocks.L K g ∧ 0 < SiteBlocks.lv g i := by
  obtain ⟨t, ht⟩ := t
  cases t with
  | zero =>
    obtain ⟨y, hy, rfl, rfl⟩ := tallyL_pos (show 0 < tallyL (due c) g i from h)
    obtain ⟨h1, h2, h3⟩ := due_spec c y hy
    exact ⟨mem_L' h1 (Nat.lt_succ_of_lt h3), h2⟩
  | succ t => exact absurd h (Nat.lt_irrefl 0)

theorem arr_out (c : Dev nD) : (pdats m 0 c).arrAt (5 : Fin 6) (cfg0).N = outC m c := by
  refine Dat.arrAt_eq_of_cover (pdats m 0 c) (5 : Fin 6) (outC m c) (fun t _ => ?_) fun i => ⟨t0_0, flush0_5 t0_0, ?_⟩
  · rw [fin_N0 t]; exact (blk5 (F := F) t0_0 (outC m c)).symm
  · exact (set_whole_rect main_v16 (funext fun a => Nat.zero_mul _) _).symm ▸ Finset.mem_univ i

theorem arr_final (c : Dev nD) (w : Fin 6) : (pdats m 0 c).arrAt w (cfg0).N = VE m c (Proc.devRef .tc (Pipeline.arrRef spec0 w)) := by
  have hin (w : Fin 6) (hw : ((cfg0).win w).isOut = false) (hne : Pipeline.arrRef spec0 w ∉ ([main_v16] : List (Ref sig .tc))) :
      (pdats m 0 c).arrAt w (cfg0).N = VE m c (Proc.devRef .tc (Pipeline.arrRef spec0 w)) :=
    ((pdats m 0 c).arrAt_in w hw _).trans (V2_of m (outs m) c _ hne).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact (arr_out m c).trans (VE_out m c).symm

set_option backward.isDefEq.respectTransparency.types false in
def reg : RegionSeg (pcfgs (F := F)) adm (pdats m) 0 defs₀ 𝒱₀ (SiteBlocks.L K) SiteBlocks.lv 0 :=
  Pipeline.RegionSeg.ofTalk (pcfgs (F := F)) adm (pdats m) 0 defs₀ 𝒱₀ (SiteBlocks.L K) SiteBlocks.lv 0 osem osem_facts
    ∅ restRefs (Finset.empty_subset _) launch0.toP rfl (fun c => (body_obligation m c).loose)
    (fun _ => 0) (fun c => tallyL (due c)) (fun c => (zero_add _).symm) (fun c => rfl) (fun _ => rfl) (share_eq m)
    (V1 m) (VE m) (rest_same m) (kept (V1 m)) (passed (V1 m)) (opened (V1 m)) (passed (V1 m))
    (opening (V1 m)) (entering m) (leaving m) (fun c => by iintro H; imodintro; iexact H)
    (fun _ => 0) ⟨fun c w s => SiteBlocks.mem_L c _ (by decide), fun c w s => Nat.le_refl 0, fun c t g i h => cutD m c t g i h⟩
    (fun _ => iprop(emp)) (fun c w => rfl) (arr_final m)

/-! ## The launch -/

/-- What rides on a device around the host operations. -/
def riding (c : Dev nD) : sProp 𝕄 := iprop((∃ r, prngReg c r) ∗ kept (V1 m) c ∗ ∃ Wt, owes c (tallyL (due c)) Wt)

theorem reg_pre (c : Dev nD) :
    iprop(StableHlo.held (c : Thread nD τ) (Pipeline.ucRefs τ sig) (V1 m c) ∗ riding m c) ⊢ (reg m).pre c := by
  show _ ⊢ iprop(StableHlo.held (c.tc : Thread nD τ) (Pipeline.arrRefs spec0) (V1 m c) ∗ (∃ r, prngReg c r)
    ∗ (StableHlo.held (c.tc : Thread nD τ) restRefs (V1 m c) ∗ emp) ∗ kept (V1 m) c ∗ ∃ Wd, owes (c : Thread nD τ) (0 + tallyL (due c)) Wd)
  rw [zero_add, StableHlo.held_sub_split (c.tc : Thread nD τ) arr_sub (V1 m c)]
  unfold riding
  iintro ⟨⟨Ha, Hr⟩, Hp, Hk, HO⟩
  isplitl [Ha]; · iexact Ha
  isplitl [Hp]; · iexact Hp
  isplitl [Hr]
  · isplitl [Hr]; · iexact Hr
    iempintro
  isplitl [Hk] <;> iassumption

/-- What a device ends with. -/
def ending (c : Dev nD) : sProp 𝕄 := iprop(StableHlo.held (c : Thread nD τ) (Pipeline.ucRefs τ sig) (VE m c) ∗ passed (V1 m) c)

theorem reg_post (c : Dev nD) :
    (reg m).post c ⊢ iprop(ending m c ∗ ∃ Wt, owes (c : Thread nD τ) (0 : CellTallies nD τ sig ℕ) Wt) := by
  show iprop(StableHlo.held (c.tc : Thread nD τ) (Pipeline.arrRefs spec0) (VE m c) ∗ (∃ r, prngReg c r)
    ∗ (StableHlo.held (c.tc : Thread nD τ) restRefs (VE m c) ∗ emp) ∗ passed (V1 m) c ∗ ∃ Wd, owes (c : Thread nD τ) (0 : CellTallies nD τ sig ℕ) Wd) ⊢ _
  unfold ending
  rw [StableHlo.held_sub_split (c.tc : Thread nD τ) arr_sub (VE m c)]
  iintro ⟨Ha, -, ⟨Hr, -⟩, Hb, HO⟩
  isplitr [HO]
  · isplitl [Ha Hr]
    · isplitl [Ha] <;> iassumption
    iexact Hb
  iexact HO

theorem unscoped_eq : ∀ sm : SemLoc sig, sm.isScoped .tc = false → sm = .reg barS := by decide

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

theorem not_unitless (g : GSem nD τ sig) : ¬(exRd (V1 m)).unitless g := fun h => h

/-- The launch element. -/
def launchU : UU := (initOf (Pipeline.cells cfgs cellOf_inj) (Pipeline.launchToks cfgs cellOf_inj), launchOf fam.S fam.Sd fam.T)

/-- The exchange's launch resource, kept by the first device. -/
def launchG (c : Dev nD) : sProp 𝕄 := if c = 0 then BI.own (ER (launchOf fam.S fam.Sd fam.T)) else BI.emp

theorem launchG_all : (bigSep Finset.univ fun c : Dev nD => launchG (F := F) c) = BI.own (ER (launchOf fam.S fam.Sd fam.T)) := by
  unfold launchG
  rw [bigSep_univ_at _ (0 : Dev nD), bigSep_congr (s := Finset.univ.erase (0 : Dev nD)) (Ψ := fun _ => BI.emp) fun c hc => if_neg (Finset.ne_of_mem_erase hc),
    BI.bigSep_emp_const, if_pos rfl]
  exact BI.equiv_iff.mp sep_emp

theorem funding :
    iprop((bigSep Finset.univ fun c : Dev nD => iprop(unscopedSems0 c ∗ Pipeline.launchCred (fun d => tallyL (due d)) c)) ∗ BI.own (ER (launchOf fam.S fam.Sd fam.T)))
      ⊢ (|={Set.univ}=> bigSep Finset.univ (kept (V1 m)) : sProp 𝕄) := by
  have IH := fam.funds ER (exRd (V1 m)) (fun g _ => not_unitless m g) (fun _ => Finset.univ) (Es := Set.univ)
  have h := TalkSites.pass (fun c => tallyL (due c)) IH
  simp only [zero_add] at h
  have e (c : Dev nD) (_ : c ∈ Finset.univ) : (iprop(Pipeline.launchCred (fun d => tallyL (due d)) c ∗ fam.launched ER (exRd (V1 m)) (fun _ => Finset.univ) c) : sProp 𝕄) ⊢ kept (V1 m) c := by
    unfold kept
    iintro ⟨Ha, Hb⟩
    isplitl [Hb] <;> iassumption
  simp only [unscopedSems_eq]
  exact BIBase.Entails.trans h (fupd_mono (bigSep_mono e))

theorem launching (ρ : Dev nD → PrngReg) :
    iprop((bigSep Finset.univ fun c : Dev nD => iprop(unscopedBufs c (fun b => m ((c.tc : Thread nD τ).loc b)) ∗ unscopedSems0 c
          ∗ owes (c.tc : Thread nD τ) (tallyL (due c)) ∅ ∗ Pipeline.launchCred (fun d => tallyL (due d)) c ∗ prngReg c (ρ c) ∗ launchG (F := F) c)) ∗ levAts (SiteBlocks.L K) SiteBlocks.lv)
      ⊢ (|={Set.univ}=> bigSep Finset.univ fun c : Dev nD => iprop(StableHlo.held (c : Thread nD τ) (Pipeline.ucRefs τ sig) (V0 m c) ∗ riding m c) : sProp 𝕄) := by
  have h1 (c : Dev nD) (_ : c ∈ Finset.univ) :
      iprop(unscopedBufs c (fun b => m ((c.tc : Thread nD τ).loc b)) ∗ unscopedSems0 c
          ∗ owes (c.tc : Thread nD τ) (tallyL (due c)) ∅ ∗ Pipeline.launchCred (fun d => tallyL (due d)) c ∗ prngReg c (ρ c) ∗ launchG (F := F) c)
        ⊢ (iprop((StableHlo.held (c : Thread nD τ) (Pipeline.ucRefs τ sig) (V0 m c) ∗ (∃ r, prngReg c r) ∗ ∃ Wt, owes c (tallyL (due c)) Wt)
          ∗ ((unscopedSems0 c ∗ Pipeline.launchCred (fun d => tallyL (due d)) c) ∗ launchG (F := F) c)) : sProp 𝕄) := by
    rw [← Pipeline.unscopedBufs_held (Ix := ℕ) (Name := ℕ) (U := UU) (Lvl := ℕ) c (V0 m c)]
    iintro ⟨Hb, Hs, HO, Hc, Hp, HG⟩
    isplitl [Hb HO Hp]
    · isplitl [Hb]; · iexact Hb
      isplitl [Hp]; · iexists _; iexact Hp
      iexists _; iexact HO
    isplitr [HG]
    · isplitl [Hs] <;> iassumption
    iexact HG
  have h2 (c : Dev nD) (_ : c ∈ Finset.univ) :
      iprop((StableHlo.held (c : Thread nD τ) (Pipeline.ucRefs τ sig) (V0 m c) ∗ (∃ r, prngReg c r) ∗ ∃ Wt, owes c (tallyL (due c)) Wt) ∗ kept (V1 m) c)
        ⊢ (iprop(StableHlo.held (c : Thread nD τ) (Pipeline.ucRefs τ sig) (V0 m c) ∗ riding m c) : sProp 𝕄) := by
    unfold riding
    iintro ⟨⟨Hh, Hp, HO⟩, Hk⟩
    isplitl [Hh]; · iexact Hh
    isplitl [Hp]; · iexact Hp
    isplitl [Hk] <;> iassumption
  have e1 : _ ⊢ (iprop((bigSep Finset.univ fun c : Dev nD => iprop(StableHlo.held (c : Thread nD τ) (Pipeline.ucRefs τ sig) (V0 m c) ∗ (∃ r, prngReg c r) ∗ ∃ Wt, owes c (tallyL (due c)) Wt))
      ∗ (bigSep Finset.univ fun c : Dev nD => iprop(unscopedSems0 c ∗ Pipeline.launchCred (fun d => tallyL (due d)) c)) ∗ bigSep Finset.univ fun c : Dev nD => launchG (F := F) c) : sProp 𝕄) := (bigSep_mono h1).trans (Entails.of_eq ((bigSep_sep' _ _ _).trans (congrArg (BI.sep _) (bigSep_sep' _ _ _))))
  have e2 : iprop((bigSep Finset.univ fun c : Dev nD => iprop(StableHlo.held (c : Thread nD τ) (Pipeline.ucRefs τ sig) (V0 m c) ∗ (∃ r, prngReg c r) ∗ ∃ Wt, owes c (tallyL (due c)) Wt))
      ∗ bigSep Finset.univ (kept (V1 m))) ⊢ (_ : sProp 𝕄) := (Entails.of_eq (bigSep_sep' _ _ _).symm).trans (bigSep_mono h2)
  rw [launchG_all] at e1
  iintro ⟨H, -⟩
  ihave H := e1 $$ H
  icases H with ⟨Hh, Hsc, HG⟩
  imod (funding m) $$ [Hsc HG] with Hk
  · isplitl [Hsc] <;> iassumption
  imodintro
  iapply e2
  isplitl [Hh] <;> iassumption

end Cert.KernelIdeal.Own

end
-- ==== Proof.Softmax.lean ====
module

/-
  The softmax over the extended reals, free of any program. A row has real scores `T`, a mask `μ`, and values `V` that may be
  infinite. The kernel takes the weight of column `j` as a power of two of the scaled score and divides once, after the sum; the
  reference subtracts the row's maximum, takes exponentials and divides each weight. Both are `∑ j, V j * (P j / ∑ P)`, where
  `P j` is `exp (T j / 8)` on the mask and zero off it.
-/

public import Idealize.ShloMosaic.PureOps.Ideal.Laws

@[expose] public section

noncomputable section

open scoped BigOperators

namespace Cert.Own

open Idealize.ShloMosaic

variable {ι : Type} [Fintype ι]

/-- The unnormalised weight of a score. -/
def weight (μ : Prop) [Decidable μ] (t : ℝ) : ℝ := if μ then Real.exp (t / 8) else 0

theorem weight_nonneg (μ : Prop) [Decidable μ] (t : ℝ) : 0 ≤ weight μ t := by
  unfold weight
  split
  · exact (Real.exp_pos _).le
  · exact le_rfl

/-- A row's weights sum to something positive when its mask keeps a column. -/
theorem weight_sum_pos (μ : ι → Prop) [DecidablePred μ] (T : ι → ℝ) (j : ι) (hj : μ j) : 0 < ∑ j, weight (μ j) (T j) :=
  Finset.sum_pos' (fun i _ => weight_nonneg _ _) ⟨j, Finset.mem_univ j, by rw [weight, if_pos hj]; exact Real.exp_pos _⟩

/-- The normalised weight. -/
def share (μ : ι → Prop) [DecidablePred μ] (T : ι → ℝ) (j : ι) : ℝ := weight (μ j) (T j) / ∑ i, weight (μ i) (T i)

theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem mul_sum_real (s : Finset ι) (f : ι → EReal) (r : ℝ) (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.2 hr) (EReal.coe_ne_top r), ih]

/-! ## The kernel's row -/

/-- The kernel's weight: two to the scaled score plus the bias. -/
theorem kernel_weight (μ : Prop) [Decidable μ] (t : ℝ) :
    Ideal.exp2 (((t * (8 * Real.log 2)⁻¹ : ℝ) : EReal) + (if μ then 0 else ⊥)) = ((weight μ t : ℝ) : EReal) := by
  unfold weight
  split
  · rw [add_zero, Ideal.exp2_coe]
    refine congrArg _ ?_
    show (2 : ℝ) ^ (t * (8 * Real.log 2)⁻¹) = _
    rw [Real.rpow_def_of_pos two_pos]
    refine congrArg _ ?_
    have h2 : Real.log 2 ≠ 0 := (Real.log_pos one_lt_two).ne'
    field_simp
  · rw [EReal.add_bot, Ideal.exp2_bot]; rfl

/-- The kernel's row: the weighted sum of the values times the reciprocal of the weights' sum. -/
theorem kernel_row (μ : ι → Prop) [DecidablePred μ] (T : ι → ℝ) (j : ι) (hj : μ j) (V : ι → EReal) :
    (∑ i, ((weight (μ i) (T i) : ℝ) : EReal) * V i) * Ideal.div 1 (∑ i, ((weight (μ i) (T i) : ℝ) : EReal) * 1)
      = ∑ i, V i * ((share μ T i : ℝ) : EReal) := by
  have hS := weight_sum_pos μ T j hj
  simp only [mul_one]
  rw [← coe_sum, Ideal.div_coe hS.ne', one_mul, mul_comm, mul_sum_real _ _ _ (one_div_nonneg.2 hS.le)]
  refine Finset.sum_congr rfl fun i _ => ?_
  rw [← mul_assoc, ← EReal.coe_mul, mul_comm, share]
  exact congrArg (fun r : ℝ => V i * (r : EReal)) (by rw [one_div, div_eq_mul_inv, mul_comm])

/-! ## The reference's row -/

/-- A masked score. -/
def masked (μ : Prop) [Decidable μ] (t : ℝ) : EReal := if μ then ((t / 8 : ℝ) : EReal) else ⊥

/-- The row's maximum is real. -/
theorem row_max (μ : ι → Prop) [DecidablePred μ] (T : ι → ℝ) (j : ι) (hj : μ j) :
    ∃ M : ℝ, (Finset.univ : Finset ι).fold max ⊥ (fun i => masked (μ i) (T i)) = (M : EReal) := by
  have top : (Finset.univ : Finset ι).fold max ⊥ (fun i => masked (μ i) (T i)) < ⊤ :=
    (Finset.fold_max_lt _).2 ⟨bot_lt_top, fun i _ => by unfold masked; split; exacts [EReal.coe_lt_top _, bot_lt_top]⟩
  have bot : ⊥ < (Finset.univ : Finset ι).fold max ⊥ (fun i => masked (μ i) (T i)) :=
    (Finset.lt_fold_max _).2 (Or.inr ⟨j, Finset.mem_univ j, by rw [masked, if_pos hj]; exact EReal.bot_lt_coe _⟩)
  exact ⟨_, (EReal.coe_toReal top.ne bot.ne').symm⟩

/-- The reference's weight: the exponential of the masked score less a real. -/
theorem ref_weight (μ : Prop) [Decidable μ] (t M : ℝ) :
    Ideal.exp (masked μ t - (M : EReal)) = ((weight μ t * Real.exp (-M) : ℝ) : EReal) := by
  unfold weight masked
  split
  · rw [← EReal.coe_sub, Ideal.exp_coe, ← Real.exp_add]; rfl
  · rw [sub_eq_add_neg, EReal.bot_add, Ideal.exp_bot, zero_mul]; rfl

/-- The reference's normalised weight. -/
theorem ref_share (μ : ι → Prop) [DecidablePred μ] (T : ι → ℝ) (j : ι) (hj : μ j) (M : ℝ) (i : ι) :
    Ideal.div ((weight (μ i) (T i) * Real.exp (-M) : ℝ) : EReal) (0 + ∑ k, ((weight (μ k) (T k) * Real.exp (-M) : ℝ) : EReal)) = ((share μ T i : ℝ) : EReal) := by
  have hS := weight_sum_pos μ T j hj
  have he := Real.exp_pos (-M)
  rw [zero_add, ← coe_sum, ← Finset.sum_mul, Ideal.div_coe (mul_pos hS he).ne', ← EReal.coe_mul, share]
  exact congrArg _ (by field_simp)

end Cert.Own
-- ==== Proof.KernelValue.lean ====
module

/-
  The kernel's values over the extended reals, at an index.
-/

public import proofs.«01_k».proof.Proof.Kit
public import proofs.«01_k».proof.Proof.Softmax
public import Idealize.ShloMosaic.Lib.Pointwise

@[expose] public section

noncomputable section

open scoped BigOperators

namespace Cert.KernelIdeal.Math

open Idealize.ShloMosaic Idealize.ShloMosaic.TcCoe
open Cert.KernelIdeal.Gen Cert.KernelIdeal.Own

theorem exp2_at {s : Shape} {φ : FTy} (x : FVec Ideal s φ) (i : s.Idx) : exp2 x i = Ideal.exp2 (x i) := rfl

/-- The mask's word: near the diagonal, or one of the first columns, or one of the first rows. -/
def maskW (i j : Fin 256) : BitVec 1 :=
  IntOp.ori (IntOp.cmpi CmpIPredicate.sle (IntOp.absi (IntOp.subi (BitVec.ofNat 32 i.val) (BitVec.ofNat 32 j.val))) 128#32)
    (IntOp.ori (IntOp.cmpi CmpIPredicate.slt (BitVec.ofNat 32 j.val) 32#32) (IntOp.cmpi CmpIPredicate.slt (BitVec.ofNat 32 i.val) 32#32))
/-- The mask keeps column `j` of row `i`. -/
abbrev keeps (i j : Fin 256) : Prop := maskW i j = 1#1

/-- A row keeps its diagonal. -/
theorem keeps_self (i : Fin 256) : keeps i i := by
  have e : IntOp.subi (BitVec.ofNat 32 i.val) (BitVec.ofNat 32 i.val) = 0#32 := BitVec.sub_self _
  unfold keeps maskW
  rw [e]
  have h : IntOp.cmpi CmpIPredicate.sle (IntOp.absi 0#32) 128#32 = 1#1 := by decide
  rw [h]
  exact (by decide : ∀ w : BitVec 1, IntOp.ori 1#1 w = 1#1) _

theorem select_keeps {α : Type} (i j : Fin 256) (a b : α) : Scalar.select (maskW i j) a b = if keeps i j then a else b := by
  unfold keeps
  split
  · next h => rw [h]; rfl
  · next h => rw [ValueIdx.eq_zero_of_ne_one h]; rfl

theorem pay1_at (i j : Fin 256) : k0_pay1 (F := Ideal) (ix2 i j) = if keeps i j then (0 : EReal) else ⊥ := by
  have hm : Named.named (F := Ideal) (φ := .f32) κ "mask" 0xCE6E6B28#32 = (⊥ : EReal) := IdealRules.named_const.ideal_named_scalar _ _ _ _ rfl
  pointwise [k0_pay1]
  rw [hm, show ∀ a b c : BitVec 1, IntOp.ori (IntOp.ori a b) c = IntOp.ori a (IntOp.ori b c) from fun a b c => BitVec.or_assoc a b c]
  exact select_keeps i j _ _

/-- The scaled queries. -/
theorem pay2_at (x : Vec Ideal S2x256x512 .bf16) (w : Vec Ideal S512x256 .bf16) (b : Fin 2) (i : Fin 256) (col : Fin 256) :
    k0_pay2 x w (ix2 ⟨256 * b.val + i.val, by omega⟩ col) = (∑ k : Fin 512, x (ix3 b i k) * w (ix2 k col)) * (((8 * (Real.log 2))⁻¹ : ℝ) : EReal) := by
  have hs : Named.named (F := Ideal) (φ := .f32) κ "scale" 0x3E38AA3B#32 = (((8 * (Real.log 2))⁻¹ : ℝ) : EReal) := IdealRules.named_const.ideal_named_scalar _ _ _ _ rfl
  pointwise [k0_pay2]
  rw [hs]

/-- One head at a row and a column, from the bias, the queries, the keys and the values with their column of ones. -/
theorem pay4_at (b : FVec Ideal S256x256 .bf16) (q : FVec Ideal S256x64 .bf16) (k : Vec Ideal S1x64x256 .bf16) (v : Vec Ideal S1x256x65 .bf16) (i : Fin 256) (d : Fin 64) :
    k0_pay4 b q k v (ix4 0 0 i d)
      = (∑ j : Fin 256, Ideal.exp2 ((∑ e : Fin 64, q (ix2 i e) * k (ix3 0 e j)) + b (ix2 i j)) * v (ix3 0 j ⟨d.val, by omega⟩))
        * Ideal.div 1 (∑ j : Fin 256, Ideal.exp2 ((∑ e : Fin 64, q (ix2 i e) * k (ix3 0 e j)) + b (ix2 i j)) * v (ix3 0 j 64)) := by
  pointwise [k0_pay4, exp2_at]

/-- One slot's product added to what the output holds. -/
theorem pay20_at (w : FVec Ideal S256x512 .bf16) (a : Vec Ideal S1x1x256x256 .bf16) (o : Vec Ideal S1x256x512 .f32) (i : Fin 256) (n : Fin 512) :
    k0_pay20 w a o (ix3 0 i n) = o (ix3 0 i n) + ∑ k : Fin 256, a (ix4 0 0 i k) * w (ix2 k n) := by
  pointwise [k0_pay20]
/-- The first slot's product. -/
theorem pay17_at (w : Vec Ideal S256x512 .bf16) (a : Vec Ideal S1x1x256x256 .bf16) (i : Fin 256) (n : Fin 512) :
    k0_pay17 w a (ix3 0 i n) = ∑ k : Fin 256, a (ix4 0 0 i k) * w (ix2 k n) := by
  pointwise [k0_pay17, k0_pay16]
theorem pay19_eq (w : Vec Ideal S256x512 .bf16) : k0_pay19 w = w := by
  funext j
  pointwise [k0_pay19]

/-! ## The heads -/

section Heads
variable (W : Dev nD → Valuation τ sig (Elt Ideal)) (c : Dev nD)

theorem slices_head (h : Fin 8) : S512x256.Slices ![256 * (h.val / 4), 64 * (h.val % 4)] S256x64 := by revert h; decide

/-- Every head is the same function of its columns of the queries, its keys and its values. -/
theorem headv_eq (h : Fin 8) : headv W c h
    = k0_pay4 (k0_pay1 (F := Ideal)) (extractStridedSlice S256x64 ![256 * (h.val / 4), 64 * (h.val % 4)] (q2 W c) (slices_head h)) (kHead W c h) (vHead W c h) := by
  match h with
  | 0 => rfl
  | 1 => rfl
  | 2 => rfl
  | 3 => rfl
  | 4 => rfl
  | 5 => rfl
  | 6 => rfl
  | 7 => rfl

theorem kHead_at (h : Fin 8) (e : Fin 64) (j : Fin 256) : kHead W c h (ix3 0 e j) = kIn W c (ix3 h e j) := by
  refine congrArg (kIn W c) (funext fun a => Fin.ext ?_)
  refine (ValueKit.view_emb_slice_whole_unit_val cc0_stg2_0 ![h.val, 0, 0] S1x64x256.size (inb_k h) (ix3 0 e j) a).trans ?_
  match a with
  | ⟨0, _⟩ => exact Nat.add_zero _
  | ⟨1, _⟩ => exact Nat.zero_add _
  | ⟨2, _⟩ => exact Nat.zero_add _
theorem vHead_at (h : Fin 8) (j : Fin 256) (d : Fin 65) : vHead W c h (ix3 0 j d) = vIn W c (ix3 h j d) := by
  refine congrArg (vIn W c) (funext fun a => Fin.ext ?_)
  refine (ValueKit.view_emb_slice_whole_unit_val cc0_stg3_0 ![h.val, 0, 0] S1x256x65.size (inb_v h) (ix3 0 j d) a).trans ?_
  match a with
  | ⟨0, _⟩ => exact Nat.add_zero _
  | ⟨1, _⟩ => exact Nat.zero_add _
  | ⟨2, _⟩ => exact Nat.zero_add _

/-- The index of a head in a device's block. -/
def headAt (b : Fin 2) (g : Fin 4) : Fin 8 := ⟨4 * b.val + g.val, by omega⟩

/-- The kernel's scaled query. -/
def kq (b : Fin 2) (g : Fin 4) (i : Fin 256) (e : Fin 64) : EReal :=
  (∑ k : Fin 512, xIn W c (ix3 b i k) * qIn W c (ix2 k ⟨64 * g.val + e.val, by omega⟩)) * (((8 * (Real.log 2))⁻¹ : ℝ) : EReal)
/-- The kernel's weight. -/
def kw (b : Fin 2) (g : Fin 4) (i j : Fin 256) : EReal :=
  Ideal.exp2 ((∑ e : Fin 64, kq W c b g i e * kIn W c (ix3 (headAt b g) e j)) + if keeps i j then (0 : EReal) else ⊥)
/-- The kernel's context. -/
def kc (b : Fin 2) (g : Fin 4) (i : Fin 256) (d : Fin 64) : EReal :=
  (∑ j : Fin 256, kw W c b g i j * vIn W c (ix3 (headAt b g) j ⟨d.val, by omega⟩)) * Ideal.div 1 (∑ j : Fin 256, kw W c b g i j * vIn W c (ix3 (headAt b g) j 64))

theorem query_at (b : Fin 2) (g : Fin 4) (i : Fin 256) (e : Fin 64) :
    extractStridedSlice S256x64 ![256 * ((headAt b g).val / 4), 64 * ((headAt b g).val % 4)] (q2 W c) (slices_head (headAt b g)) (ix2 i e) = kq W c b g i e := by
  have hb : (headAt b g).val / 4 = b.val := by show (4 * b.val + g.val) / 4 = b.val; omega
  have hg : (headAt b g).val % 4 = g.val := by show (4 * b.val + g.val) % 4 = g.val; omega
  refine (extractStridedSlice_apply _ _ _ _ (ix2 ⟨256 * b.val + i.val, by omega⟩ ⟨64 * g.val + e.val, by omega⟩) fun a => ?_).trans (pay2_at _ _ b i _)
  match a with
  | ⟨0, _⟩ => exact (congrArg (fun n => 256 * n + i.val) hb).symm
  | ⟨1, _⟩ => exact (congrArg (fun n => 64 * n + e.val) hg).symm

theorem headv_at (b : Fin 2) (g : Fin 4) (i : Fin 256) (d : Fin 64) : headv W c (headAt b g) (ix4 0 0 i d) = kc W c b g i d := by
  rw [headv_eq, pay4_at]
  simp only [query_at, pay1_at, kHead_at, vHead_at]
  rfl

end Heads

/-! ## The output -/

section Output
variable (W : Dev nD → Valuation τ sig (Elt Ideal)) (c : Dev nD)

/-- The context of device `a` at a column of its part. -/
def kcol (a : Dev nD) (b : Fin 2) (i : Fin 256) (k : Fin 256) : EReal := kc W a b ⟨k.val / 64, by omega⟩ i ⟨k.val % 64, Nat.mod_lt _ (by decide)⟩

theorem slabv_at (s : Fin 4) (b : Fin 2) (i k : Fin 256) : slabv W c s b (ix4 0 0 i k) = kcol W (back c s) b i k := by
  have e (a) := ValueKit.view_emb_slice_whole_unit_val cc0_scratch0 ![s.val, b.val, 0, 0] S1x1x256x256.size (inb_slab s b) (ix4 0 0 i k) a
  have hj : (commM.access (slabR s b)).emb (ix4 0 0 i k) = (ix4 s b i k : CIdx) := by
    funext a
    refine Fin.ext ((e a).trans ?_)
    match a with
    | ⟨0, _⟩ => exact Nat.add_zero _
    | ⟨1, _⟩ => exact Nat.add_zero _
    | ⟨2, _⟩ => exact Nat.zero_add _
    | ⟨3, _⟩ => exact Nat.zero_add _
  show ctx W c ((commM.access (slabR s b)).emb (ix4 0 0 i k)) = _
  rw [hj]
  have hx : inHead (ix4 s b i k : CIdx) = ix4 0 0 i ⟨k.val % 64, Nat.mod_lt _ (by decide)⟩ := by
    funext a
    match a with
    | ⟨0, _⟩ => rfl
    | ⟨1, _⟩ => rfl
    | ⟨2, _⟩ => rfl
    | ⟨3, _⟩ => rfl
  show headv W (back c s) (headOf (ix4 s b i k : CIdx)) (inHead (ix4 s b i k : CIdx)) = _
  rw [hx]
  exact headv_at W (back c s) b ⟨k.val / 64, by omega⟩ i ⟨k.val % 64, Nat.mod_lt _ (by decide)⟩

theorem off1_val (c : Dev nD) (s : Fin 4) : k0_off1 c (BitVec.ofNat 32 s.val) 0 = 256 * (back c s).val ∧ k0_off1 c (BitVec.ofNat 32 s.val) 1 = 0 := by
  revert c s; decide

theorem wov_at (s : Fin 4) (k : Fin 256) (n : Fin 512) :
    wov W c s (ix2 k n) = oIn W c (ix2 ⟨256 * (back c s).val + k.val, by have := (back c s).isLt; have : nD = 4 := rfl; omega⟩ n) := by
  refine congrArg (oIn W c) (funext fun a => Fin.ext ?_)
  refine (ValueKit.view_emb_slice_whole_unit_val cc0_stg4_0 (k0_off1 c (BitVec.ofNat 32 s.val)) S256x512.size (k0_off1_inb c s) (ix2 k n) a).trans ?_
  match a with
  | ⟨0, _⟩ => exact congrArg (· + k.val) (off1_val c s).1
  | ⟨1, _⟩ => exact (congrArg (· + n.val) (off1_val c s).2).trans (Nat.zero_add _)

/-- What device `a`'s heads add to the output. -/
def kpart (a : Dev nD) (b : Fin 2) (i : Fin 256) (n : Fin 512) : EReal :=
  ∑ k : Fin 256, kcol W a b i k * oIn W c (ix2 ⟨256 * a.val + k.val, by have := a.isLt; have : nD = 4 := rfl; omega⟩ n)

theorem slot_sum (s : Fin 4) (b : Fin 2) (i : Fin 256) (n : Fin 512) :
    ∑ k : Fin 256, slabv W c s b (ix4 0 0 i k) * wov W c s (ix2 k n) = kpart W c (back c s) b i n :=
  Finset.sum_congr rfl fun k _ => by rw [slabv_at, wov_at]

/-- Both batches are computed by one function, slot after slot. -/
theorem acc3_eq (b : Fin 2) : acc3 W c b = k0_pay20 (k0_pay19 (wov W c 2)) (slabv W c 2 b) (k0_pay20 (k0_pay19 (wov W c 3)) (slabv W c 3 b)
    (k0_pay20 (k0_pay19 (wov W c 1)) (slabv W c 1 b) (k0_pay17 (wov W c 0) (slabv W c 0 b)))) := by
  match b with
  | 0 => rfl
  | 1 => rfl

theorem acc3_at (b : Fin 2) (i : Fin 256) (n : Fin 512) : acc3 W c b (ix3 0 i n) = ∑ a : Dev nD, kpart W c a b i n := by
  rw [acc3_eq]
  simp only [pay20_at, pay17_at, pay19_eq]
  have hall : ∀ c : Dev nD, ∀ f : Dev nD → EReal, f (back c 0) + f (back c 1) + f (back c 3) + f (back c 2) = ∑ a : Dev nD, f a := by
    intro c f
    have h4 : ∑ a : Dev nD, f a = f (0 : Fin 4) + f (1 : Fin 4) + f (2 : Fin 4) + f (3 : Fin 4) := Fin.sum_univ_four f
    rw [h4]
    match c with
    | 0 => show f (0 : Fin 4) + f (3 : Fin 4) + f (1 : Fin 4) + f (2 : Fin 4) = _; ac_rfl
    | 1 => show f (1 : Fin 4) + f (0 : Fin 4) + f (2 : Fin 4) + f (3 : Fin 4) = _; ac_rfl
    | 2 => show f (2 : Fin 4) + f (1 : Fin 4) + f (3 : Fin 4) + f (0 : Fin 4) = _; ac_rfl
    | 3 => show f (3 : Fin 4) + f (2 : Fin 4) + f (0 : Fin 4) + f (1 : Fin 4) = _; ac_rfl
  exact (congrArg₂ (· + ·) (congrArg₂ (· + ·) (congrArg₂ (· + ·) (slot_sum W c 0 b i n) (slot_sum W c 1 b i n)) (slot_sum W c 3 b i n)) (slot_sum W c 2 b i n)).trans
    (hall c fun a => kpart W c a b i n)

end Output

end Cert.KernelIdeal.Math
-- ==== Proof.HostIn.lean ====
module

/-
  What the kernel's call receives: the host operations before it, read at an index.
-/

public import proofs.«01_k».proof.Proof.Run
public import proofs.«01_k».proof.Proof.KernelValue
public import Idealize.ShloMosaic.Lib.StableHlo.ReadAt

@[expose] public section

noncomputable section

open scoped BigOperators

namespace Cert.KernelIdeal.Math

open Idealize.ShloMosaic Idealize.ShloMosaic.TcCoe
open Cert.KernelIdeal.Gen Cert.KernelIdeal.Own

variable (m : (ℓ : Loc nD τ sig) → Buf (Elt Ideal) ℓ) (c : Dev nD)

/-- The host's arrays of a device, before the call. -/
abbrev arg0 : Vec Ideal S2x256x512 .bf16 := m ((c.tc : Thread nD τ).loc main_arg0)
@[inherit_doc arg0] abbrev arg1 : Vec Ideal S512x1024 .bf16 := m ((c.tc : Thread nD τ).loc main_arg1)
@[inherit_doc arg0] abbrev arg2 : Vec Ideal S2x256x4x64 .bf16 := m ((c.tc : Thread nD τ).loc main_arg2)
@[inherit_doc arg0] abbrev arg3 : Vec Ideal S2x256x4x64 .bf16 := m ((c.tc : Thread nD τ).loc main_arg3)
@[inherit_doc arg0] abbrev arg4 : Vec Ideal S1024x512 .bf16 := m ((c.tc : Thread nD τ).loc main_arg4)

theorem head_div (b : Fin 2) (g : Fin 4) (h : (headAt b g).val / 4 < 2) : (⟨(headAt b g).val / 4, h⟩ : Fin 2) = b :=
  Fin.ext (by show (4 * b.val + g.val) / 4 = b.val; omega)
theorem head_mod (b : Fin 2) (g : Fin 4) (h : (headAt b g).val % 4 < 4) : (⟨(headAt b g).val % 4, h⟩ : Fin 4) = g :=
  Fin.ext (by show (4 * b.val + g.val) % 4 = g.val; omega)

theorem x_at (i : S2x256x512.Idx) : xIn (V1 m) c i = arg0 m c i :=
  congrFun (V1_of m c main_arg0 (by decide)) i
theorem o_at (i : S1024x512.Idx) : oIn (V1 m) c i = arg4 m c i :=
  congrFun (V1_of m c main_arg4 (by decide)) i

theorem k_at (b : Fin 2) (g : Fin 4) (e : Fin 64) (j : Fin 256) : kIn (V1 m) c (ix3 (headAt b g) e j) = arg2 m c (ix4 b j g e) := by
  unfold kIn V1
  after_reads_at
  rw [head_div, head_mod]

theorem v_at (b : Fin 2) (g : Fin 4) (j : Fin 256) (d : Fin 65) :
    vIn (V1 m) c (ix3 (headAt b g) j d) = if h : d.val < 64 then arg3 m c (ix4 b j g ⟨d.val, h⟩) else (1 : EReal) := by
  unfold vIn V1
  after_reads_at
  simp only [head_div, head_mod]

/-- The column at which the device's part of the query projection starts. -/
theorem start_col : (StableHlo.upto (hostOps0 c) (V0 m c) 14 (Proc.tc.devRef main_v8) : Vec Ideal S_ .i32) (Shape.Idx.first h_S_) = BitVec.ofNat 32 (256 * c.val) := by
  after_reads_at
  revert c; decide
theorem start_row : (StableHlo.upto (hostOps0 c) (V0 m c) 14 (Proc.tc.devRef main_c_4) : Vec Ideal S_ .i32) (Shape.Idx.first h_S_) = 0#32 := by
  after_reads_at

theorem q_at (k : Fin 512) (col : Fin 256) :
    qIn (V1 m) c (ix2 k col) = arg1 m c (ix2 k ⟨256 * c.val + col.val, by have := c.isLt; have : nD = 4 := rfl; omega⟩) := by
  have hc : c.val < 4 := c.isLt
  unfold qIn V1
  after_reads_at
  refine congrArg (arg1 m c) (funext fun a => Fin.ext ?_)
  match a with
  | ⟨0, _⟩ =>
    refine (congrArg (· + k.val) (Host.clampedStart_of_le (s := S512x1024) (t := S512x256) _ _ 0 0 ?_ (by decide))).trans (Nat.zero_add _)
    exact congrArg BitVec.toInt (start_row m c)
  | ⟨1, _⟩ =>
    refine congrArg (· + col.val) (Host.clampedStart_of_le (s := S512x1024) (t := S512x256) _ _ 1 (256 * c.val) ?_ (by show 256 * c.val + 256 ≤ 1024; omega))
    refine (congrArg BitVec.toInt (start_col m c)).trans ?_
    revert c; decide

end Cert.KernelIdeal.Math
-- ==== Proof.RefValue.lean ====
module

/-
  The reference's values over the extended reals, stage by stage at an index.
-/

public import proofs.«01_k».proof.Proof.KernelValue
public import proofs.«01_k».proof.Proof.Gen.ReferenceIdeal.Run

@[expose] public section

noncomputable section

open scoped BigOperators

namespace Cert.ReferenceIdeal.Math

open Idealize.ShloMosaic Idealize.ShloMosaic.TcCoe
open Cert.ReferenceIdeal.Gen Cert.ReferenceIdeal.Value
open Cert.KernelIdeal.Math (maskW keeps keeps_self select_keeps)
open Cert.Own

/-! ## The mask -/

/-- The row's and the column's number at every entry of the mask. -/
def rowN : IVec S256x1 32 := broadcastInDim S256x1 ![0] bcast_S256_S256x1_0 (iotaInDim S256 32 0)
@[inherit_doc rowN] def colN : IVec S1x256 32 := broadcastInDim S1x256 ![1] bcast_S256_S1x256_1 (iotaInDim S256 32 0)
/-- The mask. -/
def maskA : IVec S256x256 1 :=
  ori (cmpi .sle (absi (subi (broadcastInDim S256x256 ![0, 1] bcast_S256x1_S256x256_0_1 rowN) (broadcastInDim S256x256 ![0, 1] bcast_S1x256_S256x256_0_1 colN)))
      (broadcastInDim S256x256 ![] bcast_S_S256x256 (constantI S_ 32 128#32)))
    (ori (broadcastInDim S256x256 ![0, 1] bcast_S1x256_S256x256_0_1 (cmpi .slt colN (broadcastInDim S1x256 ![] bcast_S_S1x256 (constantI S_ 32 32#32))))
      (broadcastInDim S256x256 ![0, 1] bcast_S256x1_S256x256_0_1 (cmpi .slt rowN (broadcastInDim S256x1 ![] bcast_S_S256x1 (constantI S_ 32 32#32)))))
/-- The rows that keep a column. -/
def keepA : IVec S256 1 := Host.reduce IntOp.ori maskA (constantI S_ 1 0#1) reducesTo_S256x256_S256_d1 h_S_

theorem maskA_at (i j : Fin 256) : maskA (ix2 i j) = maskW i j := by
  pointwise [maskA, rowN, colN, maskW]

theorem fold_or (s : Finset (Fin 256)) (f : Fin 256 → BitVec 1) (j : Fin 256) (hj : j ∈ s) (h : f j = 1#1) : s.fold IntOp.ori 0#1 f = 1#1 := by
  rw [← Finset.insert_erase hj, Finset.fold_insert (Finset.notMem_erase j s), h]
  exact (by decide : ∀ w : BitVec 1, IntOp.ori 1#1 w = 1#1) _

theorem keepA_at (i : Fin 256) : keepA (ix1 i) = 1#1 := by
  pointwise [keepA]
  simp only [maskA_at]
  exact fold_or _ _ i (Finset.mem_univ i) (keeps_self i)

/-! ## The scores -/

section Scores
variable (x : FVec Ideal S2x256x512 .f32) (w : FVec Ideal S512x1024 .f32) (k : FVec Ideal S2x256x16x64 .f32)

def scoreA : FVec Ideal S2x16x256x256 .f32 :=
  select (broadcastInDim S2x16x256x256 ![0, 1, 2, 3] bcast_S1x1x256x256_S2x16x256x256_0_1_2_3 (broadcastInDim S1x1x256x256 ![2, 3] bcast_S256x256_S1x1x256x256_2_3 maskA))
    (mulf (Host.dotGeneral dot_S2x256x16x64_S2x256x16x64_S2x16x256x256_3_3_1_1_02_02 none
        (shapeCast _ (Host.dotGeneral dot_S2x256x512_S512x1024_S2x256x1024_2_0_01_1_n_n none x w) shapeCasts_S2x256x1024_S2x256x16x64) k)
      (broadcastInDim S2x16x256x256 ![] bcast_S_S2x16x256x256 (constant S_ .f32 0x3E000000#32)))
    (broadcastInDim S2x16x256x256 ![] bcast_S_S2x16x256x256 (id (constant S_ .f32 0xFF800000#32)))

theorem eighth : Ideal.ofBits .f32 0x3E000000#32 = ((1 / 8 : ℝ) : EReal) := by
  simp [Ideal.ofBits, Ideal.ieee, -EReal.coe_mul]; norm_num
theorem minus_inf : Ideal.ofBits .f32 0xFF800000#32 = (⊥ : EReal) := by
  simp [Ideal.ofBits, Ideal.ieee]

theorem scoreA_at (b : Fin 2) (h : Fin 16) (i j : Fin 256) : scoreA x w k (ix4 b h i j)
    = if keeps i j then (∑ e : Fin 64, (∑ n : Fin 512, x (ix3 b i n) * w (ix2 n ⟨h.val * 64 + e.val, by omega⟩)) * k (ix4 b j h e)) * ((1 / 8 : ℝ) : EReal) else (⊥ : EReal) := by
  rw [← select_keeps, ← maskA_at]
  pointwise [scoreA, id, eighth, minus_inf]

end Scores

/-! ## The weights -/

section Weights
variable (s : FVec Ideal S2x16x256x256 .f32)

def expA : FVec Ideal S2x16x256x256 .f32 :=
  Host.exp (subf s (broadcastInDim S2x16x256x256 ![0, 1, 2, 3] bcast_S2x16x256x1_S2x16x256x256_0_1_2_3 (broadcastInDim S2x16x256x1 ![0, 1, 2] bcast_S2x16x256_S2x16x256x1_0_1_2
    (Host.reduce FloatOps.maximumf s (constant S_ .f32 0xFF800000#32) reducesTo_S2x16x256x256_S2x16x256_d3 h_S_))))

theorem expA_at (b : Fin 2) (h : Fin 16) (i j : Fin 256) :
    expA s (ix4 b h i j) = Ideal.exp (s (ix4 b h i j) - Finset.univ.fold max (⊥ : EReal) fun j' => s (ix4 b h i j')) := by
  pointwise [expA, minus_inf]

variable (p : FVec Ideal S2x16x256x256 .f32)
def shareA : FVec Ideal S2x16x256x256 .f32 :=
  select (broadcastInDim S2x16x256x256 ![0, 1, 2, 3] bcast_S1x1x256x1_S2x16x256x256_0_1_2_3 (broadcastInDim S1x1x256x1 ![2] bcast_S256_S1x1x256x1_2 keepA))
    (Host.divf p (broadcastInDim S2x16x256x256 ![0, 1, 2, 3] bcast_S2x16x256x1_S2x16x256x256_0_1_2_3
      (select (broadcastInDim S2x16x256x1 ![0, 1, 2, 3] bcast_S1x1x256x1_S2x16x256x1_0_1_2_3 (broadcastInDim S1x1x256x1 ![2] bcast_S256_S1x1x256x1_2 keepA))
        (broadcastInDim S2x16x256x1 ![0, 1, 2] bcast_S2x16x256_S2x16x256x1_0_1_2
          (Host.reduceAdd p (constant S_ .f32 0x00000000#32) reducesTo_S2x16x256x256_S2x16x256_d3 h_S_))
        (broadcastInDim S2x16x256x1 ![] bcast_S_S2x16x256x1 (id (constant S_ .f32 0x3F800000#32))))))
    (broadcastInDim S2x16x256x256 ![] bcast_S_S2x16x256x256 (id (constant S_ .f32 0x00000000#32)))

theorem shareA_at (b : Fin 2) (h : Fin 16) (i j : Fin 256) :
    shareA p (ix4 b h i j) = Ideal.div (p (ix4 b h i j)) (0 + ∑ j' : Fin 256, p (ix4 b h i j')) := by
  pointwise [shareA, keepA_at, id]

end Weights

/-! ## The output -/

section Out
variable (v : FVec Ideal S2x256x16x64 .f32) (p : FVec Ideal S2x16x256x256 .f32) (o : FVec Ideal S1024x512 .f32)

def outA : FVec Ideal S2x256x512 .f32 :=
  Host.dotGeneral dot_S2x256x1024_S1024x512_S2x256x512_2_0_01_1_n_n none
    (shapeCast _ (transpose S2x256x16x64 [0, 3, 1, 2] (Host.dotGeneral dot_S2x256x16x64_S2x16x256x256_S2x16x64x256_1_3_3_2_02_01 none v p) transposes_S2x16x64x256_S2x256x16x64_0_3_1_2)
      shapeCasts_S2x256x16x64_S2x256x1024) o

theorem outA_at (b : Fin 2) (i : Fin 256) (n : Fin 512) : outA v p o (ix3 b i n)
    = ∑ k : Fin 1024, (∑ j : Fin 256, v (ix4 b j ⟨k.val / 64, by omega⟩ ⟨k.val % 64, Nat.mod_lt _ (by decide)⟩) * p (ix4 b ⟨k.val / 64, by omega⟩ i j)) * o (ix2 k n) := by
  pointwise [outA]

end Out

/-! ## The stages are the reference -/

section Whole
variable (m : (ℓ : Loc nD τ sig) → Buf (Elt Ideal) ℓ) (c : Dev nD)

theorem res_eq : res_main_v47 m c = outA (extf .f32 (m ((c.tc : Thread nD τ).loc main_arg3)) bitsLt_bf16_f32)
    (shareA (expA (scoreA (extf .f32 (m ((c.tc : Thread nD τ).loc main_arg0)) bitsLt_bf16_f32) (extf .f32 (m ((c.tc : Thread nD τ).loc main_arg1)) bitsLt_bf16_f32)
      (extf .f32 (m ((c.tc : Thread nD τ).loc main_arg2)) bitsLt_bf16_f32))))
    (extf .f32 (m ((c.tc : Thread nD τ).loc main_arg4)) bitsLt_bf16_f32) := rfl

end Whole

end Cert.ReferenceIdeal.Math
-- ==== Proof.Finite.lean ====
module

/-
  What the precondition says of a device's blocks: every entry of the activations, of the query
  weights and of the keys is a real number.
-/

public import proofs.«01_k».proof.Defs
public import Idealize.ShloMosaic.Lib.ReduceAll
public import Idealize.ShloMosaic.Lib.Affine
public import Idealize.ShloMosaic.Lib.Pointwise

@[expose] public section

noncomputable section

namespace Cert.Own

open Idealize.ShloMosaic

/-- The side conditions the precondition states, over a device's blocks and over the whole arrays. -/
instance finite_blocks : Cert.Pre_finite_KernelIdeal.Facts where
  bitsLt_bf16_f32 := by decide
  bcast_S_S2x256x512 := by decide
  reducesTo_S2x256x512_S_d0_1_2 := by decide
  h_S_ := by decide
  bcast_S_S512x1024 := by decide
  reducesTo_S512x1024_S_d0_1 := by decide
  bcast_S_S2x256x4x64 := by decide
  reducesTo_S2x256x4x64_S_d0_1_2_3 := by decide

@[inherit_doc finite_blocks]
instance finite_wholes : Cert.Pre_finite_ReferenceIdeal.Facts where
  bitsLt_bf16_f32 := by decide
  bcast_S_S2x256x512 := by decide
  reducesTo_S2x256x512_S_d0_1_2 := by decide
  h_S_ := by decide
  bcast_S_S512x1024 := by decide
  reducesTo_S512x1024_S_d0_1 := by decide
  bcast_S_S2x256x16x64 := by decide
  reducesTo_S2x256x16x64_S_d0_1_2_3 := by decide

open Cert.Pre_finite_KernelIdeal (S_ S2x256x512 S512x1024 S2x256x4x64 S1024x512)

/-- A number whose absolute value is below the infinity is a real one. -/
theorem real_of_below (x : EReal) (h : Ideal.cmp .olt (max x (-x)) ⊤ = 1#1) : x = ((x.toReal : ℝ) : EReal) := by
  have hlt : max x (-x) < ⊤ := by
    by_contra hn
    rw [show Ideal.cmp .olt (max x (-x)) ⊤ = BitVec.ofBool (decide (max x (-x) < ⊤)) from rfl, decide_eq_false hn] at h
    exact absurd h (by decide)
  refine (EReal.coe_toReal (fun e => ?_) fun e => ?_).symm
  · rw [e] at hlt; exact absurd hlt (by simp)
  · rw [e] at hlt; exact absurd hlt (by simp)

/-- One array's test. -/
theorem real_of_test {s : Shape} {axes : List (Fin s.rank)} (x : FVec Ideal s .bf16) (hb : S_.BroadcastsInDim s (![] : Fin 0 → Fin s.rank))
    (hr : s.ReducesTo axes S_) (hp : 0 < S_.numel) (hlt : FTy.bits .bf16 < FTy.bits .f32) (j : S_.Idx)
    (h : Host.reduce IntOp.andi (cmpf .olt (Host.absf (extf .f32 x hlt)) (broadcastInDim s ![] hb (constant (F := Ideal) S_ .f32 0x7F800000#32)))
      (constantI S_ 1 1#1) hr hp j = 1#1) (i : s.Idx) : x i = (((x i).toReal : ℝ) : EReal) := by
  haveI : Subsingleton S_.Idx := ⟨fun a b => funext fun k => k.elim0⟩
  have hi := Host.reduce_andi_all _ _ hr hp j h i
  refine real_of_below (x i) (Eq.trans (congrArg (Ideal.cmp .olt (max (x i) (-(x i)))) ?_) hi)
  show (⊤ : EReal) = Ideal.ofBits .f32 0x7F800000#32
  simp [Ideal.ofBits, Ideal.ieee]

/-- The three arrays' tests together. -/
theorem real_of_finite (a0 : FVec Ideal S2x256x512 .bf16) (a1 : FVec Ideal S512x1024 .bf16) (a2 a3 : FVec Ideal S2x256x4x64 .bf16)
    (a4 : FVec Ideal S1024x512 .bf16) (j : S_.Idx) (h : Cert.Pre_finite_KernelIdeal.fn (F := Ideal) a0 a1 a2 a3 a4 j = 1#1) :
    (∀ i, a0 i = (((a0 i).toReal : ℝ) : EReal)) ∧ (∀ i, a1 i = (((a1 i).toReal : ℝ) : EReal)) ∧ ∀ i, a2 i = (((a2 i).toReal : ℝ) : EReal) := by
  obtain ⟨h01, h2⟩ := IntOp.andi_eq_one.1 h
  obtain ⟨h0, h1⟩ := IntOp.andi_eq_one.1 h01
  exact ⟨real_of_test a0 _ _ _ _ j h0, real_of_test a1 _ _ _ _ j h1, real_of_test a2 _ _ _ _ j h2⟩

end Cert.Own

end
-- ==== Proof.Launch.lean ====
module

/-
  The whole program's run from a launch: every device's segments (the host operations, then the region) chained, the
  launch resources dealt, and the final memory read off.
-/

public import proofs.«01_k».proof.Proof.Run

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos tallyL_append cred_tallyL Fam)
open Idealize.ShloMosaic.Pipeline (Seg HostSeg RegionSeg Dat Cfg Window)
open Cert.KernelIdeal.Gen

variable {F : FTy → Type} [FloatOps F] [Named F]

local notation "𝕄" => MT nD τ sig ℕ (Elt F) ℕ UU ℕ

variable (m : (ℓ : Loc nD τ sig) → Buf (Elt F) ℓ)

theorem launchU_own : (ownU launchU : sProp 𝕄)
    ⊢ |={Set.univ}=> iprop(BI.own (EP (initOf (Pipeline.cells cfgs cellOf_inj) (Pipeline.launchToks cfgs cellOf_inj))) ∗ bigSep Finset.univ fun c : Dev nD => launchG (F := F) c) := by
  rw [launchG_all]
  unfold launchU
  iintro Hu
  ihave H := (ownU_pair _ _) $$ Hu
  imodintro
  iexact H

/-- What device `c`'s final memory is. -/
def Final (c : Dev nD) (s : MemSt nD τ sig (Elt F)) : Prop :=
  (s.mem ((c.tc : Thread nD τ).loc main_v16) = outC m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))

theorem final_read (c : Dev nD) (s' : Phys nD τ sig (Elt F)) :
    iprop(ending m c ∗ SI s') ⊢ (|={Set.univ}=> iprop(⌜Final m c s'.mem ∧ s'.mem.sem (barCell c) = 0⌝ ∗ SI s') : sProp 𝕄) := by
  have hb := fam.barPos_read ER (exRd (V1 m)) c (hr := duties_later (V1 m) _ 1 le_rfl) ∅ s'
  unfold ending passed StableHlo.held
  iintro ⟨⟨Hh, Hb⟩, HSI⟩
  ihave Hr := (pointsTo_read_all (Pipeline.ucRefs τ sig) (fun b => ((c : Thread nD τ).1, b)) (VE m c) s') $$ [Hh HSI]
  · isplitl [Hh] <;> iassumption
  icases Hr with ⟨%h, HSI⟩
  imod hb $$ [Hb HSI] with ⟨%hz, HSI⟩
  · isplitl [Hb] <;> iassumption
  imodintro
  isplitr
  · ipureintro
    have rd (b : Ref sig .tc) (hb : Proc.devRef (τ := τ) .tc b ∈ Pipeline.ucRefs τ sig) := h (Proc.devRef .tc b) hb
    exact ⟨⟨(h (Proc.devRef .tc main_v16) (Finset.mem_filter.mpr ⟨StableHlo.devRef_mem_tcRefs main_v16, by decide⟩)).trans (VE_out m c),
      (h (Proc.devRef .tc main_arg0) (Finset.mem_filter.mpr ⟨StableHlo.devRef_mem_tcRefs main_arg0, by decide⟩)).trans (V2_main_arg0 m (outs m) c),
      (h (Proc.devRef .tc main_arg1) (Finset.mem_filter.mpr ⟨StableHlo.devRef_mem_tcRefs main_arg1, by decide⟩)).trans (V2_main_arg1 m (outs m) c),
      (h (Proc.devRef .tc main_arg2) (Finset.mem_filter.mpr ⟨StableHlo.devRef_mem_tcRefs main_arg2, by decide⟩)).trans (V2_main_arg2 m (outs m) c),
      (h (Proc.devRef .tc main_arg3) (Finset.mem_filter.mpr ⟨StableHlo.devRef_mem_tcRefs main_arg3, by decide⟩)).trans (V2_main_arg3 m (outs m) c),
      (h (Proc.devRef .tc main_arg4) (Finset.mem_filter.mpr ⟨StableHlo.devRef_mem_tcRefs main_arg4, by decide⟩)).trans (V2_main_arg4 m (outs m) c)⟩, hz⟩
  · iexact HSI

-- The run theorem's implicit arguments are found by unifying its conclusion with this one.
set_option backward.isDefEq.respectTransparency.types false in
/-- THE RUN: every fair execution of the program ends, every device's result is `outC`, every argument array is as it was
    launched, and every counter of every device reads zero. -/
theorem run_main (ρ : Dev nD → PrngReg) :
    θ_run (defs (F := F)) (onTc (τ := τ) (main (F := F))) ⟨m, fun _ => 0, ρ⟩ (fun r => (∀ c : Dev nD, Final m c r.2) ∧ r.2.sem = fun _ => 0) := by
  refine Pipeline.θ_run_regions_kit_dev_sems (pcfgs (F := F)) adm (pdats m) 0 cellOf_inj EP defs₀ 𝒱₀ (SiteBlocks.L K) SiteBlocks.lv m ρ main
    (segs m 𝒱₀ (SiteBlocks.L K) SiteBlocks.lv (fun _ => riding m) 0 (pdats m) (reg m))
    (fun c Q => by
      rewrite [main_chain c, Seg.run_eq_chain,
        show (segs m 𝒱₀ (SiteBlocks.L K) SiteBlocks.lv (fun _ => riding m) 0 (pdats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) (fun c => tallyL (due c)) (SiteBlocks.hL K)
    (fun c => launchG (F := F) c) launchU launchU_own
    (T₀ := fun c => iprop(StableHlo.held (c : Thread nD τ) (Pipeline.ucRefs τ sig) (V0 m c) ∗ riding m c))
    (Tₙ := ending m)
    (hch := fun c => ⟨.rfl, reg_pre m c, reg_post m c⟩)
    (hinit := launching m ρ) (QY := fun c s => Final m c s ∧ s.sem (barCell c) = 0)
    (hfin := final_read m) (hQ := fun s h hs => ⟨fun c => (h c).1, ?_⟩)
  exact sem_eq_zero hs fun c sm hsm => by obtain rfl := unscoped_eq sm hsm; exact (h c).2

end Cert.KernelIdeal.Own

end
-- ==== Proof.Frames.lean ====
module

/-
  The frames of the three programs and the two named constants' statements. The kernel and its idealization are one program
  but for two constants, so the kernel's frame is the idealization's run read at the bit-exact values, where a named
  constant is its pattern.
-/

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Own

open Idealize.ShloMosaic Idealize.ShloMosaic.TcCoe Idealize.SL.Sem

/-- A named constant read at the bit-exact values: its pattern. -/
instance bitsNamed : Named Bits where
  named κ name {φ} b := FloatOps.ofBits φ b

theorem frame_kernelIdeal : Cert.quiescent_KernelIdeal (hKernelIdeal := Cert.KernelIdeal.Gen.facts) := fun m ρ _ =>
  (θ_run _ _ _).mono (fun _ h => ⟨fun c => (h.1 c).2, h.2⟩) (Cert.KernelIdeal.Own.run_main m ρ)

attribute [local instance] Cert.Kernel.Gen.facts Cert.KernelIdeal.Gen.facts

/-- The run's frame at the bit-exact values. -/
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run _ _ _).mono (fun _ h => ⟨fun c => (h.1 c).2, h.2⟩) (Cert.KernelIdeal.Own.run_main (F := Bits) m ρ)

set_option maxRecDepth 100000 in
/-- At the bit-exact values the two programs' body tables are one. -/
theorem defs₀_eq : (Cert.Kernel.defs₀ (F := Bits) : Defs Cert.KernelIdeal.nD Cert.KernelIdeal.τ Cert.KernelIdeal.sig (Elt Bits) Cert.KernelIdeal.Λ₀) = Cert.KernelIdeal.defs₀ (F := Bits) := by
  refine congrArg (Defs.onTc (nD := Cert.KernelIdeal.nD) (τ := Cert.KernelIdeal.τ) (sig := Cert.KernelIdeal.sig) (Val := Elt Bits) (Λ := Cert.KernelIdeal.Λ₀)) (funext fun l => funext fun a => ?_)
  match l, a with
  | 0, (t, s) => rfl
  | ⟨_ + 1, h⟩, _ => exact absurd h (Nat.not_lt.2 (Nat.le_add_left _ _))

theorem defs_eq : (Cert.Kernel.defs (F := Bits) : Defs Cert.KernelIdeal.nD Cert.KernelIdeal.τ Cert.KernelIdeal.sig (Elt Bits) (Pipeline.Sig Cert.KernelIdeal.Λ₀ (Fin 1) fun p => (Cert.KernelIdeal.pcfgs (F := Bits) p).Adm)) = Cert.KernelIdeal.defs (F := Bits) :=
  congrArg (Pipeline.defs (Cert.KernelIdeal.pcfgs (F := Bits))) defs₀_eq

set_option maxRecDepth 100000 in
theorem frame_kernel : Cert.quiescent_Kernel (hKernel := Cert.Kernel.Gen.facts) := fun m ρ _ => by
  have h := frame_bits m ρ
  rw [← defs_eq] at h
  exact h

theorem frame_reference : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

theorem preserves : Cert.preserves_Kernel_KernelIdeal :=
  ⟨IdealRules.named_const.statement Cert.KernelIdeal.κ "mask" .f32 0xCE6E6B28#32 ⊥ rfl,
    IdealRules.named_const.statement Cert.KernelIdeal.κ "scale" .f32 0x3E38AA3B#32 (((8 * (Real.log 2))⁻¹ : ℝ) : EReal) rfl⟩

end Cert.Own

end
-- ==== Proof.Value.lean ====
module

/-
  The kernel's result is the reference's, entry by entry: both are the sum over the context columns
  of the normalised attention times the output weights. A device holds a quarter of the heads and
  works out its quarter of the columns, which the exchange then brings to every device.
-/

public import proofs.«01_k».proof.Proof.HostIn
public import proofs.«01_k».proof.Proof.RefValue
public import proofs.«01_k».proof.Proof.Finite
public import proofs.«01_k».proof.Proof.Frames
public import Idealize.ShloMosaic.Lib.LayoutAt

@[expose] public section

noncomputable section

open scoped BigOperators

namespace Cert.Own

open Idealize.ShloMosaic Idealize.ShloMosaic.TcCoe Idealize.SL.Sem
open Cert.KernelIdeal.Math (keeps keeps_self arg0 arg1 arg2 arg3 arg4 headAt kq kw kc kcol kpart acc3_at x_at o_at k_at v_at q_at)
open Cert.ReferenceIdeal.Math (scoreA scoreA_at expA expA_at shareA shareA_at outA outA_at)
open Cert.KernelIdeal.Gen (V1)
open Cert.ReferenceIdeal (S2x256x512 S512x1024 S2x256x16x64 S1024x512)

/-! ## The common value -/

/-- Query times key, over the reals: row `i` against column `j` in head `h`. -/
def dotR (x : Vec Ideal S2x256x512 .f32) (w : Vec Ideal S512x1024 .f32) (k : Vec Ideal S2x256x16x64 .f32)
    (b : Fin 2) (h : Fin 16) (i j : Fin 256) : ℝ :=
  ∑ e : Fin 64, (∑ n : Fin 512, (x (ix3 b i n)).toReal * (w (ix2 n ⟨h.val * 64 + e.val, by omega⟩)).toReal) * (k (ix4 b j h e)).toReal

/-- The context: the values averaged with the normalised weights. -/
def ctxR (x : Vec Ideal S2x256x512 .f32) (w : Vec Ideal S512x1024 .f32) (k v : Vec Ideal S2x256x16x64 .f32)
    (b : Fin 2) (h : Fin 16) (i : Fin 256) (d : Fin 64) : EReal :=
  ∑ j : Fin 256, v (ix4 b j h d) * ((share (keeps i) (dotR x w k b h i) j : ℝ) : EReal)

section Reference

variable (x : Vec Ideal S2x256x512 .f32) (w : Vec Ideal S512x1024 .f32) (k v : Vec Ideal S2x256x16x64 .f32) (o : Vec Ideal S1024x512 .f32)
  (hx : ∀ i, x i = (((x i).toReal : ℝ) : EReal)) (hw : ∀ i, w i = (((w i).toReal : ℝ) : EReal)) (hk : ∀ i, k i = (((k i).toReal : ℝ) : EReal))

include hx hw in
/-- A query entry is real. -/
theorem query_real (b : Fin 2) (i : Fin 256) (h : Fin 16) (e : Fin 64) :
    (∑ n : Fin 512, x (ix3 b i n) * w (ix2 n ⟨h.val * 64 + e.val, by omega⟩))
      = ((∑ n : Fin 512, (x (ix3 b i n)).toReal * (w (ix2 n ⟨h.val * 64 + e.val, by omega⟩)).toReal : ℝ) : EReal) := by
  rw [coe_sum]
  refine Finset.sum_congr rfl fun n _ => ?_
  rw [EReal.coe_mul, ← hx, ← hw]

include hx hw hk in
theorem score_real (b : Fin 2) (h : Fin 16) (i j : Fin 256) : scoreA x w k (ix4 b h i j) = masked (keeps i j) (dotR x w k b h i j) := by
  rw [scoreA_at, masked]
  refine congrArg (fun z : EReal => if keeps i j then z else ⊥) ?_
  rw [show dotR x w k b h i j / 8 = dotR x w k b h i j * (1 / 8) by ring, EReal.coe_mul]
  refine congrArg (· * ((1 / 8 : ℝ) : EReal)) ?_
  rw [dotR, coe_sum]
  refine Finset.sum_congr rfl fun e _ => ?_
  rw [EReal.coe_mul, ← query_real x w hx hw b i h e, ← hk]

include hx hw hk in
theorem share_real (b : Fin 2) (h : Fin 16) (i j : Fin 256) :
    shareA (expA (scoreA x w k)) (ix4 b h i j) = ((share (keeps i) (dotR x w k b h i) j : ℝ) : EReal) := by
  obtain ⟨M, hM⟩ := row_max (keeps i) (dotR x w k b h i) i (keeps_self i)
  have hp : ∀ j', expA (scoreA x w k) (ix4 b h i j') = ((weight (keeps i j') (dotR x w k b h i j') * Real.exp (-M) : ℝ) : EReal) := fun j' => by
    rw [expA_at, funext (fun j'' => score_real x w k hx hw hk b h i j''), hM, score_real x w k hx hw hk, ref_weight]
  rw [shareA_at, hp, funext hp]
  exact ref_share (keeps i) (dotR x w k b h i) i (keeps_self i) M j

include hx hw hk in
theorem ref_at (b : Fin 2) (i : Fin 256) (n : Fin 512) :
    outA v (shareA (expA (scoreA x w k))) o (ix3 b i n)
      = ∑ c : Fin 1024, ctxR x w k v b ⟨c.val / 64, by omega⟩ i ⟨c.val % 64, Nat.mod_lt _ (by decide)⟩ * o (ix2 c n) := by
  rw [outA_at]
  refine Finset.sum_congr rfl fun c _ => congrArg (· * o (ix2 c n)) (Finset.sum_congr rfl fun j _ => ?_)
  rw [share_real x w k hx hw hk]

end Reference

/-! ## A device's quarter -/

section Kernel

variable (m : (ℓ : Loc Cert.KernelIdeal.nD Cert.KernelIdeal.τ Cert.KernelIdeal.sig) → Buf (Elt Ideal) ℓ) (a : Dev Cert.KernelIdeal.nD)
  (x : Vec Ideal S2x256x512 .f32) (w : Vec Ideal S512x1024 .f32) (k v : Vec Ideal S2x256x16x64 .f32) (o : Vec Ideal S1024x512 .f32)
  (hx : ∀ i, x i = (((x i).toReal : ℝ) : EReal)) (hw : ∀ i, w i = (((w i).toReal : ℝ) : EReal)) (hk : ∀ i, k i = (((k i).toReal : ℝ) : EReal))
  (a0 : arg0 m a = x) (a1 : arg1 m a = w) (a4 : arg4 m a = o)
  (a2 : ∀ b j g e, arg2 m a (ix4 b j g e) = k (ix4 b j ⟨4 * a.val + g.val, by have := a.isLt; have := g.isLt; simp only [Cert.KernelIdeal.nD] at *; omega⟩ e))
  (a3 : ∀ b j g e, arg3 m a (ix4 b j g e) = v (ix4 b j ⟨4 * a.val + g.val, by have := a.isLt; have := g.isLt; simp only [Cert.KernelIdeal.nD] at *; omega⟩ e))

/-- The device's `g`-th head among all sixteen. -/
def headOf (a : Dev Cert.KernelIdeal.nD) (g : Fin 4) : Fin 16 := ⟨4 * a.val + g.val, by have := a.isLt; have := g.isLt; simp only [Cert.KernelIdeal.nD] at *; omega⟩

include hx hw a0 a1 in
theorem kq_real (b : Fin 2) (g : Fin 4) (i : Fin 256) (e : Fin 64) :
    kq (V1 m) a b g i e
      = (((∑ n : Fin 512, (x (ix3 b i n)).toReal * (w (ix2 n ⟨(headOf a g).val * 64 + e.val, by omega⟩)).toReal) * (8 * Real.log 2)⁻¹ : ℝ) : EReal) := by
  rw [kq, EReal.coe_mul, ← query_real x w hx hw b i (headOf a g) e]
  refine congrArg (· * (((8 * Real.log 2)⁻¹ : ℝ) : EReal)) (Finset.sum_congr rfl fun n _ => ?_)
  rw [x_at, q_at, a0, a1]
  refine congrArg (fun z => x (ix3 b i n) * w (ix2 n z)) (Fin.ext ?_)
  show 256 * a.val + (64 * g.val + e.val) = (4 * a.val + g.val) * 64 + e.val
  ring

include hx hw hk a0 a1 a2 in
theorem kw_real (b : Fin 2) (g : Fin 4) (i j : Fin 256) :
    kw (V1 m) a b g i j = ((weight (keeps i j) (dotR x w k b (headOf a g) i j) : ℝ) : EReal) := by
  rw [← kernel_weight, kw]
  refine congrArg (fun z : EReal => Ideal.exp2 (z + if keeps i j then 0 else ⊥)) ?_
  rw [dotR, Finset.sum_mul, coe_sum]
  refine Finset.sum_congr rfl fun e _ => ?_
  rw [kq_real m a x w hx hw a0 a1, k_at, a2, hk, ← EReal.coe_mul]
  exact congrArg _ (mul_right_comm _ _ _)

include hx hw hk a0 a1 a2 a3 in
theorem kc_real (b : Fin 2) (g : Fin 4) (i : Fin 256) (d : Fin 64) :
    kc (V1 m) a b g i d = ctxR x w k v b (headOf a g) i d := by
  rw [ctxR, ← kernel_row (keeps i) (dotR x w k b (headOf a g) i) i (keeps_self i), kc]
  refine congrArg₂ (fun y z : EReal => y * Ideal.div 1 z) (Finset.sum_congr rfl fun j _ => ?_) (Finset.sum_congr rfl fun j _ => ?_)
  · rw [kw_real m a x w k hx hw hk a0 a1 a2, v_at, dif_pos d.isLt, a3]
    rfl
  · rw [kw_real m a x w k hx hw hk a0 a1 a2, v_at, dif_neg (by decide)]

include hx hw hk a0 a1 a2 a3 in
theorem kcol_real (b : Fin 2) (i t : Fin 256) :
    kcol (V1 m) a b i t
      = ctxR x w k v b ⟨(a.val * 256 + t.val) / 64, by have := a.isLt; simp only [Cert.KernelIdeal.nD] at *; omega⟩ i
          ⟨(a.val * 256 + t.val) % 64, Nat.mod_lt _ (by decide)⟩ := by
  rw [kcol, kc_real m a x w k v hx hw hk a0 a1 a2 a3]
  refine congrArg₂ (fun h d => ctxR x w k v b h i d) (Fin.ext ?_) (Fin.ext ?_)
  · show 4 * a.val + t.val / 64 = (a.val * 256 + t.val) / 64
    omega
  · show t.val % 64 = (a.val * 256 + t.val) % 64
    omega

end Kernel

/-! ## All four -/

/-- Where an entry of a device's block is in the whole array: `4 * a` heads further along. -/
theorem block_head (a : Fin 4) (y : Vec Ideal S2x256x16x64 .f32) (b : Fin 2) (j : Fin 256) (g : Fin 4) (e : Fin 64) :
    Layout.block ⟨4, ![2, 256, 4, 64]⟩ ⟨4, ![2, 256, 16, 64]⟩ 2 4 a y (by decide) (ix4 b j g e) = y (ix4 b j ⟨4 * a.val + g.val, by omega⟩ e) := by
  rw [Layout.block_apply]
  refine congrArg y (funext fun ax => ?_)
  fin_cases ax <;> refine Fin.ext ?_
  · rfl
  · rfl
  · show a.val * 4 + g.val = 4 * a.val + g.val
    rw [mul_comm]
  · rfl

section All

variable (m : (ℓ : Loc Cert.KernelIdeal.nD Cert.KernelIdeal.τ Cert.KernelIdeal.sig) → Buf (Elt Ideal) ℓ)
  (x : Vec Ideal S2x256x512 .f32) (w : Vec Ideal S512x1024 .f32) (k v : Vec Ideal S2x256x16x64 .f32) (o : Vec Ideal S1024x512 .f32)
  (a0 : ∀ a, arg0 m a = x) (a1 : ∀ a, arg1 m a = w) (a4 : ∀ a, arg4 m a = o)
  (a2 : ∀ a : Dev Cert.KernelIdeal.nD, arg2 m a = Layout.block ⟨4, ![2, 256, 4, 64]⟩ ⟨4, ![2, 256, 16, 64]⟩ 2 4 a k (by decide))
  (a3 : ∀ a : Dev Cert.KernelIdeal.nD, arg3 m a = Layout.block ⟨4, ![2, 256, 4, 64]⟩ ⟨4, ![2, 256, 16, 64]⟩ 2 4 a v (by decide))
  (hx : ∀ i, x i = (((x i).toReal : ℝ) : EReal)) (hw : ∀ i, w i = (((w i).toReal : ℝ) : EReal))
  (hk : ∀ (a : Dev Cert.KernelIdeal.nD) i, arg2 m a i = (((arg2 m a i).toReal : ℝ) : EReal))

include a2 hk in
/-- The keys are real in the whole array, each entry being in some device's block. -/
theorem keys_real (i : S2x256x16x64.Idx) : k i = (((k i).toReal : ℝ) : EReal) := by
  obtain ⟨b, j, h, e, rfl⟩ : ∃ b j h e, i = ix4 b j h e := ⟨i 0, i 1, i 2, i 3, by funext ax; fin_cases ax <;> rfl⟩
  have hlt : h.val / 4 < 4 := by have : h.val < 16 := h.isLt; omega
  have hh := hk ⟨h.val / 4, hlt⟩ (ix4 b j ⟨h.val % 4, Nat.mod_lt _ (by decide)⟩ e)
  have hb : arg2 m ⟨h.val / 4, hlt⟩ (ix4 b j ⟨h.val % 4, Nat.mod_lt _ (by decide)⟩ e) = k (ix4 b j h e) :=
    (congrFun (a2 _) _).trans ((block_head ⟨h.val / 4, hlt⟩ k b j ⟨h.val % 4, Nat.mod_lt _ (by decide)⟩ e).trans
      (congrArg (fun z => k (ix4 b j z e)) (Fin.ext (Nat.div_add_mod h.val 4))))
  rw [hb] at hh
  exact hh

include a0 a1 a2 a3 a4 hx hw hk in
theorem result_eq (c : Dev Cert.KernelIdeal.nD) : Cert.KernelIdeal.Own.outC m c = outA v (shareA (expA (scoreA x w k))) o := by
  have hk' := keys_real m k a2 hk
  funext i
  obtain ⟨b, r, n, rfl⟩ : ∃ b r n, i = ix3 b r n := ⟨i 0, i 1, i 2, by funext ax; fin_cases ax <;> rfl⟩
  refine Eq.trans (b := Cert.KernelIdeal.Own.acc3 (V1 m) c b (ix3 0 r n)) (congrArg (Cert.KernelIdeal.Own.acc3 (V1 m) c b) (by funext ax; fin_cases ax <;> rfl)) ?_
  rw [acc3_at, ref_at x w k v o hx hw hk', Fin.sum_univ_tiles (N := 1024) 4 256 (by decide)]
  refine Finset.sum_congr rfl fun a _ => ?_
  rw [kpart]
  refine Finset.sum_congr rfl fun t _ => ?_
  rw [kcol_real m a x w k v hx hw hk' (a0 a) (a1 a) (fun b j g e => (congrFun (a2 a) _).trans (block_head a k b j g e))
    (fun b j g e => (congrFun (a3 a) _).trans (block_head a v b j g e)), o_at, a4]
  refine congrArg (fun z => _ * o (ix2 z n)) (Fin.ext ?_)
  show 256 * a.val + t.val = a.val * 256 + t.val
  rw [mul_comm]

end All

/-! ## The claims under the precondition -/

theorem frame_kernelIdeal_pre : Cert.quiescent_KernelIdeal_pre_finite_KernelIdeal (hKernelIdeal := Cert.KernelIdeal.Gen.facts) :=
  fun m ρ _ => frame_kernelIdeal m ρ trivial

theorem frame_reference_pre : Cert.quiescent_ReferenceIdeal_pre_finite_ReferenceIdeal (hReferenceIdeal := Cert.ReferenceIdeal.Gen.facts) :=
  fun m ρ _ => frame_reference m ρ trivial

theorem algebraic : Cert.algebraic_KernelIdeal_ReferenceIdeal_pre_finite_KernelIdeal (hKernelIdeal := Cert.KernelIdeal.Gen.facts)
    (hReferenceIdeal := Cert.ReferenceIdeal.Gen.facts) := by
  intro m g m' g' hpre hargs
  have hreal := fun c => real_of_finite _ _ _ _ _ (fun ax => ax.elim0) (congrFun (hpre c) _)
  have h0 := hreal 0
  have e0 := hargs 0
  refine ⟨Cert.ReferenceIdeal.Value.res_main_v47 m' 0, ?_, ?_⟩
  · refine (θ_run _ _ _).mono ?_ (Cert.KernelIdeal.Own.run_main m g)
    intro r hr c
    obtain ⟨hv, hrest⟩ := hr.1 c
    refine ⟨hv.trans ?_, hrest⟩
    rw [Cert.ReferenceIdeal.Math.res_eq]
    refine result_eq m _ _ _ _ _ (fun a => (hargs a).1) (fun a => (hargs a).2.1) (fun a => (hargs a).2.2.2.2) (fun a => (hargs a).2.2.1)
      (fun a => (hargs a).2.2.2.1) (fun i => ?_) (fun i => ?_) (fun a i => (hreal a).2.2 i) c
    · have h := h0.1 i
      rw [e0.1] at h
      exact h
    · have h := h0.2.1 i
      rw [e0.2.1] at h
      exact h
  · exact (θ_run _ _ _).mono (fun r hr => hr 0) (Cert.ReferenceIdeal.Value.run m' g')

end Cert.Own

end
-- ==== Proof.lean ====
module

public import proofs.«01_k».proof.Defs
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Own.finite_blocks, Cert.Own.finite_wholes,
    Cert.Own.frame_kernel, Cert.Own.frame_kernelIdeal, Cert.Own.frame_kernelIdeal_pre, Cert.Own.frame_reference,
    Cert.Own.frame_reference_pre, Cert.Own.preserves, Cert.Own.algebraic⟩

end Cert.Proof

end
